-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x2048x2048 : Shape := ⟨4, ![2, 16, 2048, 2048]⟩
abbrev S32x2048x2048 : Shape := ⟨3, ![32, 2048, 2048]⟩
abbrev S32x1x2048 : Shape := ⟨3, ![32, 1, 2048]⟩
abbrev S1x2048x2048 : Shape := ⟨3, ![1, 2048, 2048]⟩
abbrev S1x1x2048 : Shape := ⟨3, ![1, 1, 2048]⟩
abbrev S1x2048 : Shape := ⟨2, ![1, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S1x1x512 : Shape := ⟨3, ![1, 1, 512]⟩
abbrev S32x2048 : Shape := ⟨2, ![32, 2048]⟩
abbrev S_ : Shape := ⟨0, ![]⟩
abbrev S32 : Shape := ⟨1, ![32]⟩
abbrev S1 : Shape := ⟨1, ![1]⟩
abbrev S2048 : Shape := ⟨1, ![2048]⟩
abbrev S2048x2048 : Shape := ⟨2, ![2048, 2048]⟩
abbrev S2048x1 : Shape := ⟨2, ![2048, 1]⟩

abbrev nBuf : Space → Nat
  | .hbm => 19
  | .vmem => 8
  | .smem => 1
  | _ => 0

abbrev bufTy : (tb : Table) → Fin (tcTables nBuf tb) → BufTy
  | .hbm, ⟨0, _⟩ => ⟨S2x16x2048x2048, .f32⟩
  | .hbm, ⟨1, _⟩ => ⟨S32x2048x2048, .f32⟩
  | .hbm, ⟨2, _⟩ => ⟨S32x1x2048, .f32⟩
  | .hbm, ⟨3, _⟩ => ⟨S32x1x2048, .i32⟩
  | .hbm, ⟨4, _⟩ => ⟨S32x2048, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S32, .i32⟩
  | .hbm, ⟨13, _⟩ => ⟨S_, .f32⟩
  | .hbm, ⟨14, _⟩ => ⟨S_, .i32⟩
  | .hbm, ⟨15, _⟩ => ⟨S_, .f32⟩
  | .hbm, ⟨16, _⟩ => ⟨S_, .i32⟩
  | .hbm, ⟨17, _⟩ => ⟨S1x2048, .i32⟩
  | .hbm, ⟨18, _⟩ => ⟨S2048, .i32⟩
  | .local _ .vmem, ⟨0, _⟩ => ⟨S1x2048x2048, .f32⟩
  | .local _ .vmem, ⟨1, _⟩ => ⟨S1x2048x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x2048, .i32⟩
  | .local _ .smem, ⟨0, _⟩ => ⟨S1, .i32⟩
  | _, _ => ⟨S2x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v7 : Ref sig .tc := ⟨.hbm, 16, rfl⟩
abbrev main_v9 : Ref sig .tc := ⟨.hbm, 17, rfl⟩
abbrev main_v10 : Ref sig .tc := ⟨.hbm, 18, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

abbrev pre1 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def cc1_transform_0 (inb_S1_S1_0 : ∀ a, (![0] : Fin 1 → Nat) a + S1.size a ≤ S1.size a) (numel1_S1 : S1.numel = 1) (pf : pre1.Contents (Elt F)) (i : grid1.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]
-- ==== ReferenceIdeal.lean ====
abbrev S2x16x2048x2048 : Shape := ⟨4, ![2, 16, 2048, 2048]⟩
abbrev S_ : Shape := ⟨0, ![]⟩
abbrev S2x16x2048 : Shape := ⟨3, ![2, 16, 2048]⟩
abbrev S2x16 : Shape := ⟨2, ![2, 16]⟩
abbrev S32x2048x2048 : Shape := ⟨3, ![32, 2048, 2048]⟩
abbrev S32x2048 : Shape := ⟨2, ![32, 2048]⟩
abbrev S32 : Shape := ⟨1, ![32]⟩
abbrev S1x2048x2048 : Shape := ⟨3, ![1, 2048, 2048]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 68
  | .vmem => 0
  | .smem => 0
  | _ => 0

abbrev bufTy : (tb : Table) → Fin (tcTables nBuf tb) → BufTy
  | .hbm, ⟨0, _⟩ => ⟨S2x16x2048x2048, .f32⟩
  | .hbm, ⟨1, _⟩ => ⟨S_, .f32⟩
  | .hbm, ⟨2, _⟩ => ⟨S2x16x2048, .f32⟩
  | .hbm, ⟨3, _⟩ => ⟨S_, .f32⟩
  | .hbm, ⟨4, _⟩ => ⟨S2x16, .f32⟩
  | .hbm, ⟨5, _⟩ => ⟨S_, .f32⟩
  | .hbm, ⟨6, _⟩ => ⟨S2x16, .f32⟩
  | .hbm, ⟨7, _⟩ => ⟨S2x16, .f32⟩
  | .hbm, ⟨8, _⟩ => ⟨S_, .f32⟩
  | .hbm, ⟨9, _⟩ => ⟨S_, .f32⟩
  | .hbm, ⟨10, _⟩ => ⟨S32x2048x2048, .f32⟩
  | .hbm, ⟨11, _⟩ => ⟨S_, .f32⟩
  | .hbm, ⟨12, _⟩ => ⟨S32x2048, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .i32⟩
  | .hbm, ⟨19, _⟩ => ⟨S_, .f32⟩
  | .hbm, ⟨20, _⟩ => ⟨S_, .i32⟩
  | .hbm, ⟨21, _⟩ => ⟨S_, .f32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x2048x2048, .f32⟩
  | .hbm, ⟨45, _⟩ => ⟨S2048x2048, .f32⟩
  | .hbm, ⟨46, _⟩ => ⟨S2048x2048, .i32⟩
  | .hbm, ⟨47, _⟩ => ⟨S_, .f32⟩
  | .hbm, ⟨48, _⟩ => ⟨S_, .i32⟩
  | .hbm, ⟨49, _⟩ => ⟨S2048, .f32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S_, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S_, .i32⟩
  | .hbm, ⟨66, _⟩ => ⟨S2048, .i32⟩
  | .hbm, ⟨67, _⟩ => ⟨S2048, .i32⟩
  | _, _ => ⟨S2x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_cst_4 : Ref sig .tc := ⟨.hbm, 13, rfl⟩
abbrev main_v7 : Ref sig .tc := ⟨.hbm, 14, rfl⟩
abbrev main_cst_5 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_v13 : Ref sig .tc := ⟨.hbm, 27, rfl⟩
abbrev main_c_7 : Ref sig .tc := ⟨.hbm, 28, rfl⟩
abbrev main_c_8 : Ref sig .tc := ⟨.hbm, 29, rfl⟩
abbrev main_v14 : Ref sig .tc := ⟨.hbm, 30, rfl⟩
abbrev main_c_9 : Ref sig .tc := ⟨.hbm, 31, rfl⟩
abbrev main_c_10 : Ref sig .tc := ⟨.hbm, 32, rfl⟩
abbrev main_v15 : Ref sig .tc := ⟨.hbm, 33, rfl⟩
abbrev main_c_11 : Ref sig .tc := ⟨.hbm, 34, rfl⟩
abbrev main_v16 : Ref sig .tc := ⟨.hbm, 35, rfl⟩
abbrev main_c_12 : Ref sig .tc := ⟨.hbm, 36, rfl⟩
abbrev main_c_13 : Ref sig .tc := ⟨.hbm, 37, rfl⟩
abbrev main_v17 : Ref sig .tc := ⟨.hbm, 38, rfl⟩
abbrev main_c_14 : Ref sig .tc := ⟨.hbm, 39, rfl⟩
abbrev main_c_15 : Ref sig .tc := ⟨.hbm, 40, rfl⟩
abbrev main_v18 : Ref sig .tc := ⟨.hbm, 41, rfl⟩
abbrev main_c_16 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call1_v0 : Ref sig .tc := ⟨.hbm, 46, rfl⟩
abbrev main_call1_cst : Ref sig .tc := ⟨.hbm, 47, rfl⟩
abbrev main_call1_c : Ref sig .tc := ⟨.hbm, 48, rfl⟩
abbrev main_call1_v1_0 : Ref sig .tc := ⟨.hbm, 49, rfl⟩
abbrev main_v22 : Ref sig .tc := ⟨.hbm, 50, rfl⟩
abbrev main_c_17 : Ref sig .tc := ⟨.hbm, 51, rfl⟩
abbrev main_v23 : Ref sig .tc := ⟨.hbm, 52, rfl⟩
abbrev main_c_18 : Ref sig .tc := ⟨.hbm, 53, rfl⟩
abbrev main_call2_v0 : Ref sig .tc := ⟨.hbm, 54, rfl⟩
abbrev main_call2_v1 : Ref sig .tc := ⟨.hbm, 55, rfl⟩
abbrev main_v24 : Ref sig .tc := ⟨.hbm, 56, rfl⟩
abbrev main_c_19 : Ref sig .tc := ⟨.hbm, 57, rfl⟩
abbrev main_v25 : Ref sig .tc := ⟨.hbm, 58, rfl⟩
abbrev main_v26 : Ref sig .tc := ⟨.hbm, 59, rfl⟩
abbrev main_c_20 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_21 : Ref sig .tc := ⟨.hbm, 65, rfl⟩
abbrev main_v31 : Ref sig .tc := ⟨.hbm, 66, rfl⟩
abbrev main_v32 : Ref sig .tc := ⟨.hbm, 67, rfl⟩

abbrev nD : Nat := 1
abbrev τ : Topo := Topo.v7x

variable {F : FTy → Type} [FloatOps F]
-- ==== Proof.Bodies.lean ====
/- The two kernel bodies, run on their staging buffers, at any float instance.

   The first body sees one head `[1, 2048, 2048]` and stores, in four chunks of 512 rows, each row's largest entry and the
   position of that entry. The second sees the positions of one head and stores how often each of the 2048 positions occurs.
   Here each body is run once, and what it leaves in each output buffer is named as a function of the block it read. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameTail
public import Idealize.ShloMosaic.Lib.Tactic

@[expose] public section

set_option maxRecDepth 16384

noncomputable section

namespace Cert.KernelIdeal.Heads

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The first body -/

/-- The 512 rows of a head that begin at row 0, 512, 1024 and 1536. -/
abbrev rows0 : Rect S1x2048x2048 := Rect.unit (s := S1x2048x2048) ![0, 0, 0] S1x512x2048.size inb_S1x2048x2048_S1x512x2048_0_0_0
abbrev rows1 : Rect S1x2048x2048 := Rect.unit (s := S1x2048x2048) ![0, 512, 0] S1x512x2048.size inb_S1x2048x2048_S1x512x2048_0_512_0
abbrev rows2 : Rect S1x2048x2048 := Rect.unit (s := S1x2048x2048) ![0, 1024, 0] S1x512x2048.size inb_S1x2048x2048_S1x512x2048_0_1024_0
abbrev rows3 : Rect S1x2048x2048 := Rect.unit (s := S1x2048x2048) ![0, 1536, 0] S1x512x2048.size inb_S1x2048x2048_S1x512x2048_0_1536_0

/-- The 512 entries of an output row that begin at entry 0, 512, 1024 and 1536. -/
abbrev outs0 : Rect S1x1x2048 := Rect.unit (s := S1x1x2048) ![0, 0, 0] S1x1x512.size inb_S1x1x2048_S1x1x512_0_0_0
abbrev outs1 : Rect S1x1x2048 := Rect.unit (s := S1x1x2048) ![0, 0, 512] S1x1x512.size inb_S1x1x2048_S1x1x512_0_0_512
abbrev outs2 : Rect S1x1x2048 := Rect.unit (s := S1x1x2048) ![0, 0, 1024] S1x1x512.size inb_S1x1x2048_S1x1x512_0_0_1024
abbrev outs3 : Rect S1x1x2048 := Rect.unit (s := S1x1x2048) ![0, 0, 1536] S1x1x512.size inb_S1x1x2048_S1x1x512_0_0_1536

/-- What the first body leaves in its first output: the chunks' row maxima, the last chunk stored first in the list. -/
def maxOut (x : Vec F S1x2048x2048 .f32) : Vec F S1x1x2048 .f32 :=
  View.canon [⟨outs3, k0_pay1 (k0_pay18 (View.ld x rows3))⟩, ⟨outs2, k0_pay15 (View.ld x rows2)⟩,
    ⟨outs1, k0_pay11 (View.ld x rows1)⟩, ⟨outs0, k0_pay6 (View.ld x rows0)⟩]

/-- What it leaves in its second output: the positions of the chunks' row maxima. -/
def argOut (x : Vec F S1x2048x2048 .f32) : Vec F S1x1x2048 .i32 :=
  View.canon [⟨outs3, k0_pay2 (k0_pay19 k0_pay3 (View.ld x rows3))⟩, ⟨outs2, k0_pay16 k0_pay3 (View.ld x rows2)⟩,
    ⟨outs1, k0_pay12 (k0_pay10 (View.ld x rows1))⟩, ⟨outs0, k0_pay7 (View.ld x rows0)⟩]

/-- Four stores of 512 entries at those offsets fill a row of 2048, whatever they store. -/
theorem filled {e : EltTy} (p0 p1 p2 p3 : Vec F S1x1x512 e) (y : S1x1x2048.Idx) :
    ∃ pc ∈ ([⟨outs3, p3⟩, ⟨outs2, p2⟩, ⟨outs1, p1⟩, ⟨outs0, p0⟩] : List (View.Piece (Elt F) S1x1x2048 e)), y ∈ pc.1.set :=
  View.cover_of_tiled [⟨outs3, p3⟩, ⟨outs2, p2⟩, ⟨outs1, p1⟩, ⟨outs0, p0⟩] S1x1x512.size (by rfl) y

set_option maxHeartbeats 1000000 in
/-- The first body, from its input buffer at `x` and its outputs' at anything, returns with the input's as it was and the
    outputs' at `maxOut x` and `argOut x`. -/
theorem run_rowstats (c : Dev nD) (i : grid0.Coords) (A : Memref sig .tc .vmem S1x2048x2048 .f32) (hA : A.IsWhole)
    (B : Memref sig .tc .vmem S1x1x2048 .f32) (hB : B.IsWhole) (C : Memref sig .tc .vmem S1x1x2048 .i32) (hC : C.IsWhole)
    (x : Vec F S1x2048x2048 .f32) (K : PUnit → sProp 𝕄) :
    iprop(owns (c : Thread nD τ) A fullShare x ∗ (∃ d, owns (c : Thread nD τ) B fullShare d) ∗ (∃ d, owns (c : Thread nD τ) C fullShare d)
        ∗ (iprop(owns (c : Thread nD τ) A fullShare x ∗ owns (c : Thread nD τ) B fullShare (maxOut x)
            ∗ owns (c : Thread nD τ) C fullShare (argOut x)) -∗ K ⟨⟩))
      ⊢ wp frame (wpE (defs₀ (F := F)) Variants.none c none) Set.univ (cc0__lambda_ i A hA B hB C hC) K := by
  simp only [cc0__lambda__eq_skeleton]; unfold cc0__lambda__skel
  simp only [k0_part1_eq_skeleton, k0_part2_eq_skeleton]
  unfold owns
  iintro ⟨⟨%f, %hf, HA⟩, ⟨%_, %g, -, HB⟩, ⟨%_, %h, -, HC⟩, Hk⟩
  subst hf
  sl_exec
  sl_step
  iapply Hk
  isplitl [HA]
  · iexists f; isplitr; · ipureintro; rfl
    iexact HA
  isplitl [HB]
  · iexists _; isplitr
    swap; · iexact HB
    ipureintro
    exact (View.read_writes_eq_canon _ _ _ (filled _ _ _ _)).trans rfl
  · iexists _; isplitr
    swap; · iexact HC
    ipureintro
    exact (View.read_writes_eq_canon _ _ _ (filled _ _ _ _)).trans rfl

/-! ## The second body -/

/-- All of a `[1, 2048]` row. -/
abbrev whole1 : Rect S1x2048 := Rect.unit (s := S1x2048) ![0, 0] S1x2048.size inb_S1x2048_S1x2048_0_0

/-- All of a `[1, 1, 2048]` row. -/
abbrev whole2 : Rect S1x1x2048 := Rect.unit (s := S1x1x2048) ![0, 0, 0] S1x1x2048.size inb_S1x1x2048_S1x1x2048_0_0_0

/-- What the second body leaves in its output: the counts of the positions it read. -/
def countOut (x : Vec F S1x1x2048 .i32) : Vec F S1x2048 .i32 := View.canon [⟨whole1, k1_pay1 (View.ld x whole2)⟩]

/-- One store of a whole row fills it. -/
theorem filled1 (p : Vec F S1x2048 .i32) (y : S1x2048.Idx) :
    ∃ pc ∈ ([⟨whole1, p⟩] : List (View.Piece (Elt F) S1x2048 .i32)), y ∈ pc.1.set :=
  View.cover_of_tiled [⟨whole1, p⟩] S1x2048.size (by rfl) y

/-- The second body, from its input buffer at `x` and its output's at anything, returns with the input's as it was and the
    output's at `countOut x`; the table it is handed it does not touch. -/
theorem run_bincount (c : Dev nD) (i : grid1.Coords) (T : Memref sig .tc .smem S1 .i32) (hT : T.IsWhole)
    (A : Memref sig .tc .vmem S1x1x2048 .i32) (hA : A.IsWhole) (B : Memref sig .tc .vmem S1x2048 .i32) (hB : B.IsWhole)
    (x : Vec F S1x1x2048 .i32) (K : PUnit → sProp 𝕄) :
    iprop(owns (c : Thread nD τ) A fullShare x ∗ (∃ d, owns (c : Thread nD τ) B fullShare d)
        ∗ (iprop(owns (c : Thread nD τ) A fullShare x ∗ owns (c : Thread nD τ) B fullShare (countOut x)) -∗ K ⟨⟩))
      ⊢ wp frame (wpE (defs₀ (F := F)) Variants.none c none) Set.univ (cc1__lambda_ i T hT A hA B hB) K := by
  simp only [cc1__lambda__eq_skeleton]; unfold cc1__lambda__skel
  unfold owns
  iintro ⟨⟨%f, %hf, HA⟩, ⟨%_, %g, -, HB⟩, Hk⟩
  subst hf
  sl_exec
  sl_step
  iapply Hk
  isplitl [HA]
  · iexists f; isplitr; · ipureintro; rfl
    iexact HA
  iexists _; isplitr
  swap; · iexact HB
  ipureintro
  exact View.read_writes_eq_canon _ _ _ (filled1 _)

end Cert.KernelIdeal.Heads

end
-- ==== Proof.Winner.lean ====
/- The winning head's number is below 32, at any float instance.

   The program picks the head with the greatest score by a reduction over pairs (score, head number), and the number it picks
   names the block the second kernel fetches. Whatever the scores are, the number is one of 0 … 31. -/
module

public import proofs.«01_k».proof.Proof.Gen.KernelIdeal.Launch
public import Idealize.ShloMosaic.PureOps.Reduce

@[expose] public section

noncomputable section

namespace Cert.KernelIdeal.Heads

open Cert.KernelIdeal Cert.KernelIdeal.Gen
open Idealize.ShloMosaic

variable {F : FTy → Type} [FloatOps F]

/-- A fold of a step that always keeps one of the two second components ends in a second component that has any property the
    first pair's and every entry's have. -/
theorem foldl_snd {α β : Type} (f : α × β → α × β → α × β) (P : β → Prop)
    (hf : ∀ a b, P a.2 → P b.2 → P (f a b).2) : ∀ (l : List (α × β)) (i : α × β), P i.2 → (∀ p ∈ l, P p.2) → P (l.foldl f i).2
  | [], _, hi, _ => hi
  | p :: l, i, hi, hl => foldl_snd f P hf l (f i p) (hf i p hi (hl p (List.mem_cons_self ..)))
      fun q hq => hl q (List.mem_cons_of_mem _ hq)

/-- An arg-max by such a step gives an index that has any property the initial index and every index of the operand have. -/
theorem argReduce_snd {s t u : Shape} {φ : FTy} {axes : List (Fin s.rank)} {β : Type} (f : F φ × β → F φ × β → F φ × β) (P : β → Prop)
    (hf : ∀ a b, P a.2 → P b.2 → P (f a b).2) (x : FVec F s φ) (y : s.Idx → β) (ix : u.Idx → F φ) (iy : u.Idx → β)
    (h : s.ReducesTo axes t) (hu : 0 < u.numel) (hi : ∀ k, P (iy k)) (hy : ∀ k, P (y k)) (j : t.Idx) :
    P (Host.argReduce f x y ix iy h hu j).2 := by
  have hm : ∀ p ∈ Host.argReduceFiber x y h j, P p.2 := by
    intro p hp
    obtain ⟨n, -, rfl⟩ := List.mem_map.mp hp
    exact hy _
  by_cases hn : 2 ≤ (Host.argReduceNaNs x y h j).length
  · exact hm _ ((Host.mem_argReduceNaNs_iff ..).mp (Host.argReduce_mem_nans f x y ix iy h hu j hn)).1
  · rw [Host.argReduce_apply_eq_reduce2 f x y ix iy h hu j (by omega), Host.reduce2_eq_foldl_fiber]
    exact foldl_snd f P hf _ _ (hi _) hm

/-- The printed arg-max step keeps one of the two indices. -/
theorem reducer_snd (P : BitVec 32 → Prop) (a b : F .f32 × BitVec 32) (ha : P a.2) (hb : P b.2) :
    P (reducer_argmax_f32_i32 a b).2 := by
  unfold reducer_argmax_f32_i32
  simp only [Scalar.select]
  split <;> assumption

/-- The number of the winning head, from the 32 scores. -/
def winner (scores : FVec F S32 .f32) : BitVec 32 :=
  (Host.argReduce reducer_argmax_f32_i32 scores (iotaInDim S32 32 0) (constant S_ .f32 0xFF800000#32 : FVec F S_ .f32)
    (constantI S_ 32 0#32) reducesTo_S32_S_d0 h_S_ (fun a => a.elim0)).2

/-- It is below 32, whatever the scores. -/
theorem winner_lt (scores : FVec F S32 .f32) : (winner scores).toNat < 32 := by
  refine argReduce_snd _ (fun b : BitVec 32 => b.toNat < 32) (reducer_snd (fun b : BitVec 32 => b.toNat < 32)) _ _ _ _ _ _
    (fun _ => show (0#32).toNat < 32 by decide) (fun k => ?_) _
  have hk : (k 0).val < 32 := (k 0).isLt
  show (BitVec.ofNat 32 (k 0).val).toNat < 32
  rw [BitVec.toNat_ofNat]; omega

end Cert.KernelIdeal.Heads

end
-- ==== Proof.Regions.lean ====
/- @main's two kernel launches and the host operations around them, at any float instance.

   The buffers' contents are followed from the launch to the return: after each stretch of host operations, and after each
   kernel launch (whose output arrays are then what its write-backs leave). The second launch fetches the block that a table in
   scalar memory names; the table is the winning head's number, which is below 32, so the block is inside its array. -/
module

public import proofs.«01_k».proof.Proof.Bodies
public import proofs.«01_k».proof.Proof.Winner
public import proofs.«01_k».proof.Proof.Gen.KernelIdeal.Regions
public import Idealize.ShloMosaic.Lib.Pipeline.RegionArraysTS
public import Idealize.ShloMosaic.Lib.Pipeline.RegionsLoop

@[expose] public section

set_option maxRecDepth 16384

noncomputable section

namespace Cert.KernelIdeal.Heads

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The first launch, from any contents -/

section Launch0

variable (W : Dev nD → Valuation τ sig (Elt F))

/-- The block of window `w` at point `t`, read off the window's array. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first launch's proof data: the arrays as found; at point `t` the input's buffer holds head `t`, the outputs' the
    row maxima of that head and their positions; nothing is owed. -/
def rowData (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => maxOut (blk0 W c 0 t)
    | ⟨2, _⟩ => argOut (blk0 W c 0 t)
  Φ _ := Pipeline.scopedRest spec0 c
  q _ := fullShare
  owed _ := 0

theorem rowData_A (c : Dev nD) (w : Fin cfg0.W) : (rowData W c).A w = W c (Proc.devRef .tc (Pipeline.arrRef spec0 w)) := by
  dsimp only [rowData]
theorem rowData_after0 (c : Dev nD) (t : Fin cfg0.N) : (rowData W c).after 0 t = blk0 W c 0 t := by dsimp only [rowData]
theorem rowData_after1 (c : Dev nD) (t : Fin cfg0.N) : (rowData W c).after 1 t = maxOut (blk0 W c 0 t) := by dsimp only [rowData]
theorem rowData_after2 (c : Dev nD) (t : Fin cfg0.N) : (rowData W c).after 2 t = argOut (blk0 W c 0 t) := by dsimp only [rowData]

/-- When the body runs at point `t`, the input's buffer holds head `t`. -/
theorem rowData_before (c : Dev nD) (t : Fin cfg0.N) (d) : (rowData W c).before 0 t d = blk0 W c 0 t :=
  ((rowData W c).before_in_eq_fetched 0 rfl (fun _ => rfl) (fun _ _ _ => rfl)
    (fun t => by rw [rowData_after0]; unfold Dat.blockOf blk0; rw [rowData_A]) t d).trans
    (by unfold Dat.fetched Dat.blockOf blk0; rw [rowData_A]; rfl)

/-- The first body does at every point what the proof data say. -/
theorem rowData_body (c : Dev nD) : BodyObligation (rowData W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (P := iprop((rowData W c).Φ t.castSucc ∗ (rowData W c).owesAt () t.castSucc
      ∗ (∃ d, owns (c : Thread nD τ) (st0_0 t) fullShare ((rowData W c).before 0 t d))
      ∗ (∃ d, owns (c : Thread nD τ) (st0_1 t) fullShare ((rowData W c).before 1 t d))
      ∗ (∃ d, owns (c : Thread nD τ) (st0_2 t) fullShare ((rowData W c).before 2 t d))))
    (Q := fun _ => iprop((rowData W c).Φ t.succ ∗ (rowData W c).owesAt () t.succ
      ∗ owns (c : Thread nD τ) (st0_0 t) fullShare ((rowData W c).after 0 t)
      ∗ owns (c : Thread nD τ) (st0_1 t) fullShare ((rowData W c).after 1 t)
      ∗ owns (c : Thread nD τ) (st0_2 t) fullShare ((rowData W c).after 2 t))) ?_ rfl .rfl fun _ => .rfl
  unfold bodyAt0
  simp only [rowData_before]
  rw [show (rowData W c).Φ t.succ = (rowData W c).Φ t.castSucc from rfl,
    show (rowData W c).owesAt () t.succ = (rowData W c).owesAt () t.castSucc from rfl, rowData_after0, rowData_after1, rowData_after2]
  iintro ⟨HΦ, Ho, ⟨%_, H0⟩, ⟨%_, H1⟩, ⟨%_, H2⟩⟩
  iapply (run_rowstats c (grid0.coords t) _ _ _ _ _ _ (blk0 W c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Launch0

/-! ## The second launch, from any contents and any admissible table -/

section Launch1

variable (a : (pcfg1 (F := F)).Adm) (W : Dev nD → Valuation τ sig (Elt F))

/-- The block of window `w`, read off the window's array: of the input, the head that the table names. -/
def blk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (W c (Proc.devRef .tc (Pipeline.arrRef spec1 w)))

/-- The second launch's proof data: the arrays as found; the input's buffer holds the head's positions, the output's their
    counts; the table stays where it is; nothing is owed. -/
def countData (c : Dev nD) : Dat τ (Elt F) Unit ℕ (UR sig nD τ) ℕ (cfg1 a) c where
  A w := W c (Proc.devRef .tc (Pipeline.arrRef spec1 w))
  after w t := match w with
    | ⟨0, _⟩ => blk1 a W c 0 t
    | ⟨1, _⟩ => countOut (blk1 a W c 0 t)
  Φ _ := iprop(Pipeline.scopedRest spec1 c ∗ Pipeline.prefHeld pre1 c (fun _ => fullShare) a.1)
  q _ := fullShare
  owed _ := 0

theorem countData_A (c : Dev nD) (w : Fin (cfg1 a).W) : (countData a W c).A w = W c (Proc.devRef .tc (Pipeline.arrRef spec1 w)) := by
  dsimp only [countData]
theorem countData_after0 (c : Dev nD) (t : Fin (cfg1 a).N) : (countData a W c).after 0 t = blk1 a W c 0 t := rfl
seal countOut blk1 in
theorem countData_after1 (c : Dev nD) (t : Fin (cfg1 a).N) : (countData a W c).after 1 t = countOut (blk1 a W c 0 t) := rfl

/-- When the body runs, the input's buffer holds the head's positions. -/
theorem countData_before (c : Dev nD) (t : Fin (cfg1 a).N) (d) : (countData a W c).before 0 t d = blk1 a W c 0 t :=
  ((countData a W c).before_in_eq_fetched 0 rfl (fun _ => rfl) (fun _ _ _ => rfl)
    (fun t => by rw [countData_after0]; unfold Dat.blockOf blk1; rw [countData_A]) t d).trans
    (by unfold Dat.fetched Dat.blockOf blk1; rw [countData_A]; rfl)

/-- The staging buffers the second body is called with. -/
abbrev in1 (t : Fin (cfg1 a).N) := ((cfg1 a).win 0).stage ((cfg1 a).slots t 0)
abbrev out1 (t : Fin (cfg1 a).N) := ((cfg1 a).win 1).stage ((cfg1 a).slots t 1)

/-- The second body does what the proof data say. -/
theorem countData_body (c : Dev nD) : BodyObligation (countData a W c) (defs₀ (F := F)) Variants.none () Set.univ := fun t => by
  rw [bigSep_W1, bigSep_W1, show defs₀ (F := F) .tc (cfg1 a).body ((cfg1 a).bodyArgs t ((cfg1 a).slots t))
      = cc1__lambda_ (grid1.coords t) (Memref.whole main_v8) (Memref.isWhole_whole _)
        (spec1_0.stage ((cfg1 a).slots t 0)) (hstage1_0 (((cfg1 a).slots t 0).cast nbuf1_0))
        (spec1_1.stage ((cfg1 a).slots t 1)) (hstage1_1 (((cfg1 a).slots t 1).cast nbuf1_1)) from by
    unfold defs₀; rw [Defs.onTc_tc]]
  refine triple_restated (P := iprop((countData a W c).Φ t.castSucc ∗ (countData a W c).owesAt () t.castSucc
      ∗ (∃ d, owns (c : Thread nD τ) (in1 a t) fullShare ((countData a W c).before 0 t d))
      ∗ (∃ d, owns (c : Thread nD τ) (out1 a t) fullShare ((countData a W c).before 1 t d))))
    (Q := fun _ => iprop((countData a W c).Φ t.succ ∗ (countData a W c).owesAt () t.succ
      ∗ owns (c : Thread nD τ) (in1 a t) fullShare ((countData a W c).after 0 t)
      ∗ owns (c : Thread nD τ) (out1 a t) fullShare ((countData a W c).after 1 t))) ?_ rfl .rfl fun _ => .rfl
  simp only [countData_before]
  rw [show (countData a W c).Φ t.succ = (countData a W c).Φ t.castSucc from rfl,
    show (countData a W c).owesAt () t.succ = (countData a W c).owesAt () t.castSucc from rfl, countData_after0, countData_after1]
  iintro ⟨HΦ, Ho, ⟨%_, H0⟩, ⟨%_, H1⟩⟩
  iapply (run_bincount c (grid1.coords t) _ _ _ _ _ _ (blk1 a W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Launch1

/-! ## The contents between @main's items -/

variable (m : (ℓ : Loc nD τ sig) → Buf (Elt F) ℓ)

/-- At launch; -/
def at0 (c : Dev nD) : Valuation τ sig (Elt F) := fun b => m (c, b)
/-- when the first kernel starts; -/
def at1 (c : Dev nD) : Valuation τ sig (Elt F) := StableHlo.after hostOps0 (at0 m c)
/-- when it has ended; -/
def at2 (c : Dev nD) : Valuation τ sig (Elt F) := Pipeline.afterRegion (rowData (at1 m) c) (at1 m c)
/-- when the scores are there; -/
def at3 (c : Dev nD) : Valuation τ sig (Elt F) := StableHlo.after hostOps1 (at2 m c)
/-- when the winner is picked; -/
def at4 (c : Dev nD) : Valuation τ sig (Elt F) := StableHlo.after hostOps1_1 (at3 m c)
/-- when the second kernel starts. -/
def at5 (c : Dev nD) : Valuation τ sig (Elt F) := StableHlo.after hostOps1_2 (at4 m c)

/-- The table holds the winning head's number. -/
theorem at5_table (c : Dev nD) (i : S1.Idx) :
    at5 m c (Proc.devRef .tc main_v8) i = winner (at3 m c (Proc.devRef .tc main_v5) : FVec F S32 .f32) := by
  have h5 : at5 m c (Proc.devRef .tc main_v8) = shapeCast S1 (at4 m c (Proc.devRef .tc main_v7) : IVec S_ 32) shapeCasts_S_S1 := by
    unfold at5; after_results; rfl
  have h4 : at4 m c (Proc.devRef .tc main_v7) = fun _ => winner (at3 m c (Proc.devRef .tc main_v5) : FVec F S32 .f32) := by
    unfold at4; after_results
    funext j
    rw [show j = fun a => a.elim0 from funext fun a => a.elim0]; rfl
  rw [h5, h4]; rfl

/-- The table's contents when the second kernel starts. -/
def table : pre1.Contents (Elt F) := fun k => at5 m 0 (Proc.devRef .tc (pre1.ref k))

/-- The block it names is inside the array of positions. -/
theorem table_ok : ok1 (table m) := fun i => by
  have hw : ∀ (r : Rect S1) (h : r.shape.numel = 1),
      Pipeline.Prefetch.Contents.at (table m) 0 r h = winner (at3 m 0 (Proc.devRef .tc main_v5) : FVec F S32 .f32) :=
    fun _ _ => at5_table m 0 _
  have hlt := winner_lt (at3 m 0 (Proc.devRef .tc main_v5) : FVec F S32 .f32)
  refine ⟨fun a => ?_, .inl rfl⟩
  unfold cc1_transform_0
  rw [hw]
  fin_cases a
  · show ((winner _).toNat + 1) * 1 ≤ 32
    omega
  · show (0 + 1) * 1 ≤ 1; decide
  · show (0 + 1) * 2048 ≤ 2048; decide

/-- The tables of the two launches: the first has none. -/
def tables : (p : Fin 2) → (pcfgs (F := F) p).Adm
  | ⟨0, _⟩ => cfg0.toPCfg_adm
  | ⟨1, _⟩ => ⟨table m, table_ok m⟩

/-- When the second kernel has ended; -/
def at6 (c : Dev nD) : Valuation τ sig (Elt F) := Pipeline.afterRegion (countData (tables m 1) (at5 m) c) (at5 m c)
/-- and at the return. -/
def at7 (c : Dev nD) : Valuation τ sig (Elt F) := StableHlo.after hostOps2 (at6 m c)

end Cert.KernelIdeal.Heads

end
-- ==== Proof.Run.lean ====
/- @main's run, at any float instance: from the launch to the return, every buffer of the device that outlives a launch ends at
   the contents that Regions.lean follows. -/
module

public import proofs.«01_k».proof.Proof.Regions

@[expose] public section

set_option maxRecDepth 16384

noncomputable section

namespace Cert.KernelIdeal.Heads

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg LevelCut)

variable {F : FTy → Type} [FloatOps F]

local notation "𝕄" => MT nD τ sig Unit (Elt F) ℕ (UR sig nD τ) ℕ

variable (m : (ℓ : Loc nD τ sig) → Buf (Elt F) ℓ)

/-! ## The segments -/

/-- Both launches' proof data. -/
def launches : (p : Fin 2) → (c : Dev nD) → Dat τ (Elt F) Unit ℕ (UR sig nD τ) ℕ (Pipeline.pin (pcfgs (F := F)) (tables m) p) c
  | ⟨0, _⟩ => rowData (at1 m)
  | ⟨1, _⟩ => countData (tables m 1) (at5 m)

/-- One level, on every TensorCore's semaphores; nothing is owed. -/
abbrev pairs : GSem nD τ sig → Finset Unit := fun g => if g.1.2 = .tc then {()} else ∅
abbrev levels : GSem nD τ sig → Unit → ℕ := fun _ _ => 0
abbrev owedNone : Dev nD → CellTallies nD τ sig Unit := fun _ => 0

theorem levelCut (p : Fin 2) : LevelCut (pcfgs (F := F)) (tables m) () pairs levels p owedNone (fun _ => 0) where
  hι _ _ _ := by simp [pairs]
  hιb _ _ _ := le_refl _
  hD _ _ _ h := absurd h (Nat.lt_irrefl 0)

/-- What a core carries from segment to segment beside its buffers: that it owes nothing. -/
abbrev carried (c : Dev nD) : sProp 𝕄 :=
  iprop((∃ Wd, owes (c : Thread nD τ) (0 : CellTallies nD τ sig Unit) Wd) ∗ iprop(emp) ∗ iprop(emp))

set_option backward.isDefEq.respectTransparency.types false in
/-- The first kernel's segment. -/
def rowSeg : RegionSeg (pcfgs (F := F)) (tables m) (launches m) () defs₀ Variants.none pairs levels 0 :=
  RegionSeg.ofHeldIn pcfgs (tables m) (launches m) () defs₀ Variants.none pairs levels 0 owedNone (Pipeline.ucRefs τ sig)
    (fun _ => iprop(emp)) (fun _ => iprop(emp)) launch0 rfl (fun c => (rowData_body (at1 m) c).loose) (fun _ _ => rfl) (fun _ => rfl)
    (fun c => (launches m 0 c).share_full fun _ => rfl)
    (fun c => by
      rw [show (launches m 0 c).Φ 0 = Pipeline.scopedRest spec0 c from rfl]
      iintro ⟨H, -⟩
      iexact H)
    (fun c => by
      rw [show (launches m 0 c).Φ (Fin.last _) = Pipeline.scopedRest spec0 c from rfl]
      iintro H
      isplitl [H]; · iexact H
      iempintro)
    (fun _ => 0) (levelCut m 0) (fun _ => iprop(emp)) (at1 m) (rowData_A (at1 m))

set_option backward.isDefEq.respectTransparency.types false in
/-- The second kernel's segment. -/
def countSeg : RegionSeg (pcfgs (F := F)) (tables m) (launches m) () defs₀ Variants.none pairs levels 1 :=
  RegionSeg.ofHeldInT pcfgs (tables m) (launches m) () defs₀ Variants.none pairs levels 1 owedNone (Pipeline.ucRefs τ sig)
    (fun _ => iprop(emp)) (fun _ => iprop(emp)) launch1 (fun c => (countData_body (tables m 1) (at5 m) c).loose) (fun _ _ => rfl) (fun _ => rfl)
    (fun c => (launches m 1 c).share_full fun _ => rfl)
    (fun c => by
      rw [show (launches m 1 c).Φ 0 = iprop(Pipeline.scopedRest spec1 c ∗ Pipeline.prefHeld pre1 c (fun _ => fullShare) (tables m 1).1) from rfl]
      iintro ⟨⟨H, -⟩, Ht⟩
      isplitl [H]; · iexact H
      iexact Ht)
    (fun c => by
      rw [show (launches m 1 c).Φ (Fin.last _)
        = iprop(Pipeline.scopedRest spec1 c ∗ Pipeline.prefHeld pre1 c (fun _ => fullShare) (tables m 1).1) from rfl]
      iintro ⟨H, Ht⟩
      isplitl [H]
      · isplitl [H]; · iexact H
        iempintro
      iexact Ht)
    (fun _ => 0) (levelCut m 1) (fun _ => iprop(emp)) (at5 m) (countData_A (tables m 1) (at5 m))
    (fun c k => by rw [Subsingleton.elim c 0]; rfl)

/-! The two segments are entered from, and left with, all carried buffers at the followed contents. -/

set_option backward.isDefEq.respectTransparency.types false in
theorem rowSeg_pre (c : Dev nD) :
    iprop(StableHlo.held (c : Thread nD τ) (Pipeline.ucRefs τ sig) (at1 m c) ∗ carried (F := F) c) ⊢ (rowSeg m).pre c := by
  unfold rowSeg
  refine RegionSeg.ofHeldIn_pre (D := owedNone) (X := fun _ => iprop(emp)) (R := fun _ => iprop(emp)) (W := at1 m) ?_ c
  exact Pipeline.arrRefs_sub_ucRefs spec0 (launch0 (F := F)).win.arr_unscoped

set_option backward.isDefEq.respectTransparency.types false in
theorem rowSeg_post (c : Dev nD) :
    (rowSeg m).post c ⊢ iprop(StableHlo.held (c : Thread nD τ) (Pipeline.ucRefs τ sig) (at2 m c) ∗ carried (F := F) c) := by
  rw [show at2 m c = Pipeline.afterRegion (launches m 0 c) (at1 m c) from rfl]
  unfold rowSeg
  refine RegionSeg.ofHeldIn_post ?_ c
  exact Pipeline.arrRefs_sub_ucRefs spec0 (launch0 (F := F)).win.arr_unscoped

set_option backward.isDefEq.respectTransparency.types false in
theorem countSeg_pre (c : Dev nD) :
    iprop(StableHlo.held (c : Thread nD τ) (Pipeline.ucRefs τ sig) (at5 m c) ∗ carried (F := F) c) ⊢ (countSeg m).pre c := by
  unfold countSeg
  refine RegionSeg.ofHeldInT_pre (D := owedNone) (X := fun _ => iprop(emp)) (R := fun _ => iprop(emp)) (W := at5 m) ?_ ?_ c
  · exact Pipeline.arrRefs_sub_ucRefs spec1 (launch1 (F := F)).win.arr_unscoped
  · exact Pipeline.tblRefs_sub_ucRefs pre1 (launch1 (F := F)).pre.unscoped

set_option backward.isDefEq.respectTransparency.types false in
theorem countSeg_post (c : Dev nD) :
    (countSeg m).post c ⊢ iprop(StableHlo.held (c : Thread nD τ) (Pipeline.ucRefs τ sig) (at6 m c) ∗ carried (F := F) c) := by
  rw [show at6 m c = Pipeline.afterRegion (launches m 1 c) (at5 m c) from rfl]
  unfold countSeg
  refine RegionSeg.ofHeldInT_post ?_ ?_ c
  · exact Pipeline.arrRefs_sub_ucRefs spec1 (launch1 (F := F)).win.arr_unscoped
  · exact Pipeline.tblRefs_sub_ucRefs pre1 (launch1 (F := F)).pre.unscoped

/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none pairs levels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

/-- @main, segment by segment. -/
abbrev items : List (Pipeline.Seg (pcfgs (F := F)) (tables m) (launches m) () defs₀ Variants.none pairs levels) :=
  [ .host (hostSeg hostOps0 hostOps0_sub hostOps0_fresh (at0 m)),
    .region (rowSeg m),
    .host (hostSeg hostOps1 hostOps1_sub hostOps1_fresh (at2 m)),
    .host (hostSeg hostOps1_1 hostOps1_1_sub hostOps1_1_fresh (at3 m)),
    .host (hostSeg hostOps1_2 hostOps1_2_sub hostOps1_2_fresh (at4 m)),
    .region (countSeg m),
    .host (hostSeg hostOps2 hostOps2_sub hostOps2_fresh (at6 m)) ]

theorem main_items (c : Dev nD) : main (F := F) c = Pipeline.Seg.run (items m) := (main_chain c).trans (by chain_rfl)

/-- A buffer that outlives a launch is among those carried along. -/
theorem carried_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

variable (ρ : Dev nD → PrngReg)

set_option backward.isDefEq.respectTransparency.types false in
/-- From any memory with every counter at zero, every weakly fair execution of @main ends, nothing faulting, with every
    carried buffer at the contents `at7` and every counter at zero. -/
theorem run_main : θ_run defs (onTc (τ := τ) (main (F := F))) ⟨m, fun _ => 0, ρ⟩ (fun r =>
      (∀ c : Dev nD, ∀ b ∈ Pipeline.ucRefs τ sig, r.2.mem (c, b) = at7 m c b) ∧ r.2.sem = fun _ => 0) :=
  Pipeline.θ_run_regions_kit_sems (pcfgs (F := F)) (tables m) (launches m) () (cellOf_inj (tables m)) emb₁ defs₀ Variants.none
    pairs levels m ρ main (items m)
    (fun c Q => by rw [main_items m c])
    (by simp only [items, Pipeline.Seg.pipes_host, Pipeline.Seg.pipes_region, Pipeline.Seg.pipes_nil]; decide)
    (O₀ := 0) (hL := fun g hg => by simp [pairs, hg]) (G := fun _ => iprop(emp))
    (u₀ := initOf (Pipeline.cells (Pipeline.pin pcfgs (tables m)) (cellOf_inj (tables m)))
      (Pipeline.launchToks (Pipeline.pin pcfgs (tables m)) (cellOf_inj (tables m))))
    (hu₀ := by
      iintro Hu; imodintro
      isplitl [Hu]
      · iapply (show (ownU (initOf (Pipeline.cells (Pipeline.pin pcfgs (tables m)) (cellOf_inj (tables m)))
              (Pipeline.launchToks (Pipeline.pin pcfgs (tables m)) (cellOf_inj (tables m)))) : sProp 𝕄)
            ⊢ BI.own (emb₁ (initOf (Pipeline.cells (Pipeline.pin pcfgs (tables m)) (cellOf_inj (tables m)))
              (Pipeline.launchToks (Pipeline.pin pcfgs (tables m)) (cellOf_inj (tables m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ carried c))
    (Tₙ := fun c => StableHlo.held (c : Thread nD τ) (Pipeline.ucRefs τ sig) (at7 m c))
    (hch := ⟨fun _ => .rfl, rowSeg_pre m, rowSeg_post m, fun _ => .rfl, fun _ => .rfl, countSeg_pre m, countSeg_post m,
      fun c => by
        dsimp only [Pipeline.Seg.post, hostSeg, Pipeline.HostSeg.ofOps]
        iintro ⟨Hh, HO, -⟩
        isplitl [Hh]; · iexact Hh
        iexact HO⟩)
    (hinit := by
      refine Pipeline.initEach pairs levels fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -⟩, -⟩
      imodintro
      isplitl [Hh]; · iexact Hh
      isplitl [HO]; · iexists ∅; iexact HO
      isplitr <;> iempintro)
    (QY := fun c s => ∀ b ∈ Pipeline.ucRefs τ sig, s.mem (c, b) = at7 m c b)
    (hfin := fun c s' => by
      iintro ⟨Hh, HSI⟩
      unfold StableHlo.held
      imodintro
      iapply (pointsTo_read_all (Pipeline.ucRefs τ sig) (fun b => (c, b)) (at7 m c) s')
      isplitl [Hh] <;> iassumption)
    (hQ := fun s hY hs => ⟨hY, funext fun g => hs g (.inr (regions_no_unscoped g.2))⟩)

end Cert.KernelIdeal.Heads

end
-- ==== Proof.Frame.lean ====
/- What @main's run says of the argument and of the results, at any float instance. -/
module

public import proofs.«01_k».proof.Proof.Run

@[expose] public section

noncomputable section

namespace Cert.KernelIdeal.Heads

open Cert.KernelIdeal Cert.KernelIdeal.Gen

open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- No item of @main changes the argument. -/
theorem at7_arg (c : Dev nD) : at7 m c (Proc.devRef .tc main_arg0) = m ((c.tc : Thread nD τ).loc main_arg0) := by
  have h1 : at1 m c (Proc.devRef .tc main_arg0) = at0 m c (Proc.devRef .tc main_arg0) :=
    StableHlo.after_of_writes_sub hostOps0 _ hostOps0_writes (by decide)
  have h2 : at2 m c (Proc.devRef .tc main_arg0) = at1 m c (Proc.devRef .tc main_arg0) :=
    Pipeline.afterRegion_of_not_arr _ _ (by decide)
  have h3 : at3 m c (Proc.devRef .tc main_arg0) = at2 m c (Proc.devRef .tc main_arg0) :=
    StableHlo.after_of_writes_sub hostOps1 _ hostOps1_writes (by decide)
  have h4 : at4 m c (Proc.devRef .tc main_arg0) = at3 m c (Proc.devRef .tc main_arg0) :=
    StableHlo.after_of_writes_sub hostOps1_1 _ hostOps1_1_writes (by decide)
  have h5 : at5 m c (Proc.devRef .tc main_arg0) = at4 m c (Proc.devRef .tc main_arg0) :=
    StableHlo.after_of_writes_sub hostOps1_2 _ hostOps1_2_writes (by decide)
  have h6 : at6 m c (Proc.devRef .tc main_arg0) = at5 m c (Proc.devRef .tc main_arg0) :=
    Pipeline.afterRegion_of_not_arr _ _ (show ∀ w : Fin 2, main_arg0 ≠ Pipeline.arrRef spec1 w by decide)
  have h7 : at7 m c (Proc.devRef .tc main_arg0) = at6 m c (Proc.devRef .tc main_arg0) :=
    StableHlo.after_of_writes_sub hostOps2 _ hostOps2_writes (by decide)
  exact h7.trans (h6.trans (h5.trans (h4.trans (h3.trans (h2.trans (h1.trans rfl))))))

/-- @main's run: the argument as it was, the two results at the followed contents, every counter at zero. -/
theorem run_results : θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_v10) = at7 m c (Proc.devRef .tc main_v10)
        ∧ r.2.mem ((c.tc : Thread nD τ).loc main_v6) = at7 m c (Proc.devRef .tc main_v6))
      ∧ r.2.sem = fun _ => 0) :=
  (θ_run defs _ _).mono (fun _ h => ⟨fun c => ⟨(h.1 c _ (carried_mem main_arg0 (by decide))).trans (at7_arg m c),
    h.1 c _ (carried_mem main_v10 (by decide)), h.1 c _ (carried_mem main_v6 (by decide))⟩, h.2⟩) (run_main m ρ)

/-- The frame: the argument as it was, every counter at zero. -/
theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) :=
  (θ_run defs _ _).mono (fun _ h => ⟨fun c => (h.1 c).1, h.2⟩) (run_results m ρ)

end Cert.KernelIdeal.Heads

end
-- ==== Proof.Twin.lean ====
/- The kernel as printed and its idealization are the same text, so one frame is the other's. -/
module

public import proofs.«01_k».proof.Proof.Frame
public import proofs.«01_k».proof.Proof.Gen.Kernel.Launch

@[expose] public section

noncomputable section

namespace Cert.Kernel.Heads

open Idealize.ShloMosaic Idealize.ShloMosaic.TcCoe
open Idealize.SL Idealize.SL.Sem

variable {F : FTy → Type} [FloatOps F]

/-- At any float instance the frame of the printed kernel is the statement of the frame of its idealization. -/
theorem frame_same : (∀ (m : (ℓ : Loc Cert.Kernel.nD Cert.Kernel.τ Cert.Kernel.sig) → Buf (Elt F) ℓ) (g : Dev Cert.Kernel.nD → PrngReg),
      θ_run (Cert.Kernel.defs (F := F)) (onTc (τ := Cert.Kernel.τ) (Cert.Kernel.main (F := F))) ⟨m, fun _ => 0, g⟩ (fun r =>
        (∀ c : Dev Cert.Kernel.nD, r.2.mem ((c.tc : Thread Cert.Kernel.nD Cert.Kernel.τ).loc Cert.Kernel.main_arg0)
          = m ((c.tc : Thread Cert.Kernel.nD Cert.Kernel.τ).loc Cert.Kernel.main_arg0))
        ∧ r.2.sem = fun _ => 0))
    = (∀ (m : (ℓ : Loc Cert.KernelIdeal.nD Cert.KernelIdeal.τ Cert.KernelIdeal.sig) → Buf (Elt F) ℓ) (g : Dev Cert.KernelIdeal.nD → PrngReg),
      θ_run (Cert.KernelIdeal.defs (F := F)) (onTc (τ := Cert.KernelIdeal.τ) (Cert.KernelIdeal.main (F := F))) ⟨m, fun _ => 0, g⟩ (fun r =>
        (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0)) := by chain_rfl

/-- The printed kernel's frame. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0))
      ∧ r.2.sem = fun _ => 0) :=
  frame_same.mpr Cert.KernelIdeal.Heads.frame m g

end Cert.Kernel.Heads

end
-- ==== Proof.Reference.lean ====
/- What the reference computes, at the ideal instance, as functions of its argument; and its run. -/
module

public import proofs.«01_k».proof.Proof.Gen.ReferenceIdeal
public import Idealize.ShloMosaic.PureOps.Ideal
public import Idealize.ShloMosaic.Lib.Claim
public import Idealize.ShloMosaic.Lib.StableHlo.RunClose

@[expose] public section

noncomputable section

namespace Cert.ReferenceIdeal.Heads

open Cert.ReferenceIdeal Cert.ReferenceIdeal.Gen

open Idealize.ShloMosaic Idealize.ShloMosaic.TcCoe
open Idealize.SL Idealize.SL.Sem

/-- The largest of the scores, a score of a head being the mean of the row maxima of its block. -/
def focusRate (x : FVec Ideal S2x16x2048x2048 .f32) : FVec Ideal S_ .f32 :=
  Host.reduce FloatOps.maximumf
    (Host.divf
      (Host.reduceAdd (Host.reduce FloatOps.maximumf x (constant S_ .f32 0xFF800000#32) reducesTo_S2x16x2048x2048_S2x16x2048_d3 h_S_)
        (constant S_ .f32 0x00000000#32) reducesTo_S2x16x2048_S2x16_d2 h_S_)
      (broadcastInDim S2x16 ![] bcast_S_S2x16 (constant S_ .f32 0x45000000#32)))
    (constant S_ .f32 0xFF800000#32) reducesTo_S2x16_S_d0_1 h_S_

/-- The 32 heads' blocks. -/
def blocks (x : FVec Ideal S2x16x2048x2048 .f32) : FVec Ideal S32x2048x2048 .f32 :=
  shapeCast S32x2048x2048 x shapeCasts_S2x16x2048x2048_S32x2048x2048

/-- The 32 heads' scores. -/
def scores (y : FVec Ideal S32x2048x2048 .f32) : FVec Ideal S32 .f32 :=
  Host.divf
    (Host.reduceAdd (Host.reduce FloatOps.maximumf y (constant S_ .f32 0xFF800000#32) reducesTo_S32x2048x2048_S32x2048_d2 h_S_)
      (constant S_ .f32 0x00000000#32) reducesTo_S32x2048_S32_d1 h_S_)
    (broadcastInDim S32 ![] bcast_S_S32 (constant S_ .f32 0x45000000#32))

/-- The number of the head with the largest score. -/
def best (s : FVec Ideal S32 .f32) : IVec S_ 32 := fun j =>
  (Host.argReduce reducer_argmax_f32_i32 s (iotaInDim S32 32 0) (constant S_ .f32 0xFF800000#32) (constantI S_ 32 0#32)
    reducesTo_S32_S_d0 h_S_ j).2

/-- That number, counted from the end if negative. -/
def bestIndex (b : IVec S_ 32) : IVec S_ 32 :=
  select (cmpi .slt b (constantI S_ 32 0#32)) (addi b (constantI S_ 32 32#32)) b

/-- The starting index of a whole axis, as the slice computes it. -/
def whole : IVec S_ 32 :=
  select (cmpi .slt (constantI S_ 32 0#32) (constantI S_ 32 0#32)) (addi (constantI S_ 32 0#32) (constantI S_ 32 2048#32))
    (constantI S_ 32 0#32)

/-- The block at a head's number. -/
def pick (y : FVec Ideal S32x2048x2048 .f32) (b : IVec S_ 32) : FVec Ideal S2048x2048 .f32 :=
  shapeCast S2048x2048
    (Host.dynamicSlice S1x2048x2048 y (fun k => ((![bestIndex b, whole, whole] : Fin 3 → IVec S_ 32) k (Shape.Idx.first h_S_)).toInt)
      sliceFits_S32x2048x2048_S1x2048x2048)
    shapeCasts_S1x2048x2048_S2048x2048

/-- In every row the position of the row's largest element. -/
def positions (z : FVec Ideal S2048x2048 .f32) : IVec S2048 32 := fun j =>
  (Host.argReduce reducer_argmax_f32_i32 z (iotaInDim S2048x2048 32 1) (constant S_ .f32 0xFF800000#32) (constantI S_ 32 0#32)
    reducesTo_S2048x2048_S2048_d1 h_S_ j).2

/-- How often each position occurs: a one added at every position, clipped to be no less than zero. -/
def occurrences (p : IVec S2048 32) : IVec S2048 32 :=
  let q : IVec S2048 32 := maxsi (broadcastInDim S2048 ![] bcast_S_S2048 (constantI S_ 32 0#32)) p
  Host.scatter scatter_S2048_S2048x1_S2048_n_0_0_1 IntOp.addi (broadcastInDim S2048 ![] bcast_S_S2048 (constantI S_ 32 0#32))
    (broadcastInDim S2048x1 ![0] bcast_S2048_S2048x1_0
      (select (cmpi .slt q (broadcastInDim S2048 ![] bcast_S_S2048 (constantI S_ 32 0#32)))
        (addi q (broadcastInDim S2048 ![] bcast_S_S2048 (constantI S_ 32 2048#32))) q))
    (broadcastInDim S2048 ![] bcast_S_S2048 (constantI S_ 32 1#32))

/-- How often each position is the largest of a row, in the block of the best head. -/
def duration (x : FVec Ideal S2x16x2048x2048 .f32) : IVec S2048 32 :=
  occurrences (positions (pick (blocks x) (best (scores (blocks x)))))

/-- A list of operations run in two parts. -/
theorem after_parts (n : ℕ) (L : List (HloOp τ sig (Elt Ideal))) (V : Valuation τ sig (Elt Ideal)) :
    StableHlo.after L V = StableHlo.after (L.drop n) (StableHlo.after (L.take n) V) := by
  rw [← StableHlo.after_append, List.take_append_drop]

set_option maxHeartbeats 800000 in
/-- The reference's run: its results are the two functions of its argument, which ends as it was. -/
theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v32) = duration (m ((c.tc : Thread nD τ).loc main_arg0))
      ∧ r.2.mem ((c.tc : Thread nD τ).loc main_v4) = focusRate (m ((c.tc : Thread nD τ).loc main_arg0))
      ∧ r.2.mem ((c.tc : Thread nD τ).loc main_arg0) = m ((c.tc : Thread nD τ).loc main_arg0)) := by
  refine θ_run_mono (StableHlo.run_hlo _ _ (by hlo_seq) (by decide) (by decide) (by simp)
      (by intro _ h; (repeat (cases h with | head => rfl | tail _ h => ?_)); exact nomatch h) m g) fun r hr c => ?_
  refine ⟨Eq.trans (b := occurrences (r.2.mem ((c.tc : Thread nD τ).loc main_v22))) ?_ (congrArg occurrences ?_),
    (hr c main_v4).trans ?_, (hr c main_arg0).trans ?_⟩
  · have h32 := hr c main_v32
    have h22 := hr c main_v22
    clear hr
    rw [after_parts 50] at h32 h22
    generalize StableHlo.after (List.take _ _) _ = W at h32 h22
    simp only [List.drop_succ_cons, List.drop_zero] at h32 h22
    rw [h32, h22]
    after_results_simp_entrywise
    simp only [StableHlo.TRef.ofBuf_toBuf, StableHlo.TRef.ofBuf, StableHlo.TRef.toBuf, StableHlo.dropContentsCast]
    generalize W (Proc.tc.devRef main_v22) = p
    rfl
  · refine (hr c main_v22).trans ?_
    after_results_simp_entrywise
    simp only [StableHlo.TRef.ofBuf_toBuf, StableHlo.TRef.ofBuf, StableHlo.TRef.toBuf, StableHlo.dropContentsCast]
    rfl
  · after_results_simp_entrywise
    rfl
  · after_results_simp_entrywise

/-- The reference's frame: its argument as it was, and every counter at zero, since it declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, r.2.mem ((c.tc : Thread nD τ).loc main_arg0) = m ((c.tc : Thread nD τ).loc main_arg0))
      ∧ r.2.sem = fun _ => 0) :=
  (θ_run (defs (F := Ideal)) _ _).mono (fun r h => ⟨fun c => (h c).2.2, sem_eq_zero_of_no_sems (by decide) r.2⟩)
    (run_values m g)

end Cert.ReferenceIdeal.Heads

end
-- ==== Proof.FirstMax.lean ====
/- The position of a row's largest entry, the first such position where several entries are equal; and the two ways it is found:
   as the least position whose entry equals the row's maximum, and by a fold over pairs (entry, position). -/
module

public import Idealize.ShloMosaic.PureOps.Reduce
public import Idealize.ShloMosaic.PureOps.Ideal
public import Idealize.ShloMosaic.PureOps.Ideal.Laws

@[expose] public section

namespace Cert.FirstMax

open Idealize.ShloMosaic

/-- The three constants of the two programs' maxima and minima. -/
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_2048 : Ideal.ofBits .f32 0x45000000#32 = ((2048 : ℝ) : EReal) := by
  simp [Ideal.ofBits, Ideal.ieee, -EReal.coe_mul]; norm_num

variable {n : ℕ}

/-- `k` is the first position of a largest entry. -/
def First (v : Fin n → EReal) (k : Fin n) : Prop := ∀ j, v j < v k ∨ (v j = v k ∧ k ≤ j)

theorem First.le {v : Fin n → EReal} {k : Fin n} (h : First v k) (j : Fin n) : v j ≤ v k :=
  (h j).elim le_of_lt fun e => e.1.le

/-- A row with an entry has such a position. -/
theorem exists_first [Nonempty (Fin n)] (v : Fin n → EReal) : ∃ k, First v k := by
  obtain ⟨a, ha⟩ := Finite.exists_max v
  obtain ⟨k, hk, hmin⟩ := (Finset.univ.filter fun j => v j = v a).exists_min_image id ⟨a, by simp⟩
  have e : v k = v a := (Finset.mem_filter.mp hk).2
  refine ⟨k, fun j => ?_⟩
  rcases lt_or_eq_of_le (ha j) with h | h
  · exact .inl (e ▸ h)
  · exact .inr ⟨h.trans e.symm, hmin j (by simp [h])⟩

/-- A row's largest entry. -/
noncomputable def largest (v : Fin n → EReal) : EReal := Finset.univ.fold max (Ideal.ofBits .f32 0xFF800000#32) v

/-- The least position at which the entry equals the largest, computed on the positions' values with 2048 where it does not. -/
noncomputable def position (v : Fin n → EReal) : BitVec 32 :=
  Ideal.fptosi 32 (Finset.univ.fold min (Ideal.ofBits .f32 0x7F800000#32) fun j =>
    if v j = largest v then (((BitVec.ofNat 32 j.val).toInt : ℝ) : EReal) else Ideal.ofBits .f32 0x45000000#32)

/-- The largest entry is the entry there. -/
theorem First.largest {v : Fin n → EReal} {k : Fin n} (h : First v k) : largest v = v k := by
  refine le_antisymm (Finset.fold_max_le _ |>.mpr ⟨by rw [ofBits_bot]; exact bot_le, fun j _ => h.le j⟩) ?_
  exact (Finset.le_fold_max _).mpr (.inr ⟨k, Finset.mem_univ k, le_rfl⟩)

/-- The integer of a small natural number's value is the number. -/
theorem fptosi_nat (k : ℕ) (hk : k < 2 ^ 31) : Ideal.fptosi 32 (((k : ℝ)) : EReal) = BitVec.ofNat 32 k := by
  have e : Ideal.toIntClamped (-(2 ^ (32 - 1) : ℕ)) ((2 ^ (32 - 1) : ℕ) - 1) ((k : ℝ) : EReal) = (k : ℤ) := by
    show max _ (min _ (if 0 ≤ (k : ℝ) then ⌊(k : ℝ)⌋ else ⌈(k : ℝ)⌉)) = _
    rw [if_pos (Nat.cast_nonneg k), Int.floor_natCast]
    norm_num
    omega
  rw [Ideal.fptosi, e]
  rfl

/-- A small natural number's word, read signed, is the number. -/
theorem toInt_small (k : ℕ) (hk : k < 2 ^ 31) : (BitVec.ofNat 32 k).toInt = (k : ℤ) := by
  rw [BitVec.toInt_eq_toNat_of_lt (by rw [BitVec.toNat_ofNat]; omega), BitVec.toNat_ofNat]
  omega

/-- The least position at which the entry equals the largest is the first position of a largest entry. -/
theorem First.position {v : Fin n → EReal} {k : Fin n} (h : First v k) (hn : n ≤ 2048) : position v = BitVec.ofNat 32 k.val := by
  unfold FirstMax.position
  have hval : ∀ j : Fin n, (((BitVec.ofNat 32 j.val).toInt : ℝ) : EReal) = ((j.val : ℝ) : EReal) := fun j => by
    rw [toInt_small _ (by omega)]
    norm_cast
  simp only [h.largest, hval, ofBits_2048, ofBits_top]
  refine (congrArg _ (le_antisymm ?_ ?_)).trans (fptosi_nat k.val (by omega))
  · exact (Finset.fold_min_le _).mpr (.inr ⟨k, Finset.mem_univ k, by rw [if_pos rfl]⟩)
  · refine (Finset.le_fold_min _).mpr ⟨le_top, fun j _ => ?_⟩
    split
    · next e =>
      rcases h j with hj | hj
      · exact absurd e hj.ne
      · exact_mod_cast hj.2
    · exact_mod_cast (show k.val ≤ 2048 by omega)

/-! ## The fold over pairs -/

/-- `p` is ahead of `q`: its entry is larger, or the entries are equal and its position, read signed, is not later. -/
def Ahead (p q : EReal × BitVec 32) : Prop := q.1 < p.1 ∨ (q.1 = p.1 ∧ p.2.toInt ≤ q.2.toInt)

theorem Ahead.refl (p : EReal × BitVec 32) : Ahead p p := .inr ⟨rfl, le_rfl⟩

theorem Ahead.trans {p q r : EReal × BitVec 32} (h : Ahead p q) (h' : Ahead q r) : Ahead p r := by
  rcases h with h | h <;> rcases h' with h' | h'
  · exact .inl (h'.trans h)
  · exact .inl (h'.1 ▸ h)
  · exact .inl (h.1 ▸ h')
  · exact .inr ⟨h'.1.trans h.1, h.2.trans h'.2⟩

/-- A step that keeps of two pairs one that is ahead of both. -/
def Keeps (f : EReal × BitVec 32 → EReal × BitVec 32 → EReal × BitVec 32) : Prop :=
  ∀ a b, (f a b = a ∨ f a b = b) ∧ Ahead (f a b) a ∧ Ahead (f a b) b

/-- A fold by such a step ends at the initial pair or at one of the list's, and ahead of all of them. -/
theorem Keeps.foldl {f} (hf : Keeps f) : ∀ (l : List (EReal × BitVec 32)) (i : EReal × BitVec 32),
    (l.foldl f i = i ∨ l.foldl f i ∈ l) ∧ Ahead (l.foldl f i) i ∧ ∀ p ∈ l, Ahead (l.foldl f i) p
  | [], i => ⟨.inl rfl, .refl i, fun _ h => absurd h List.not_mem_nil⟩
  | q :: l, i => by
    obtain ⟨hm, hi, hl⟩ := Keeps.foldl hf l (f i q)
    obtain ⟨hs, ha, hb⟩ := hf i q
    refine ⟨?_, hi.trans ha, fun p hp => ?_⟩
    · rcases hm with hm | hm
      · rcases hs with hs | hs
        · exact .inl (hm.trans hs)
        · exact .inr (List.mem_cons.mpr (.inl (hm.trans hs)))
      · exact .inr (List.mem_cons_of_mem _ hm)
    · rcases List.mem_cons.mp hp with rfl | hp
      · exact hi.trans hb
      · exact hl p hp

/-- The fold over a row's pairs, in any order, from the least entry at position 0, ends at that position too. -/
theorem Keeps.foldl_position {f} (hf : Keeps f) [Nonempty (Fin n)] (hn : n ≤ 2048) (v : Fin n → EReal)
    (l : List (EReal × BitVec 32)) (hl : ∀ p, p ∈ l ↔ ∃ j : Fin n, p = (v j, BitVec.ofNat 32 j.val)) :
    (l.foldl f (Ideal.ofBits .f32 0xFF800000#32, 0#32)).2 = position v := by
  obtain ⟨k, h⟩ := exists_first v
  rw [h.position hn]
  obtain ⟨hm, hi, ha⟩ := hf.foldl l (Ideal.ofBits .f32 0xFF800000#32, 0#32)
  generalize l.foldl f (Ideal.ofBits .f32 0xFF800000#32, 0#32) = p at hm hi ha
  have hval : ∀ j : Fin n, (BitVec.ofNat 32 j.val).toInt = (j.val : ℤ) := fun j => toInt_small _ (by omega)
  have hk := ha _ ((hl _).mpr ⟨k, rfl⟩)
  rcases hm with rfl | hm
  · rcases hk with hk | hk
    · exact absurd (ofBits_bot ▸ hk) not_lt_bot
    · have h0 : k.val = 0 := by
        rcases h ⟨0, by have := k.isLt; omega⟩ with e0 | e0
        · exact absurd (lt_of_lt_of_eq e0 (hk.1.trans ofBits_bot)) not_lt_bot
        · exact Nat.le_zero.mp e0.2
      rw [h0]
  · obtain ⟨j, rfl⟩ := (hl _).mp hm
    rcases hk with hk | hk
    · exact absurd hk (not_lt.mpr (h.le j))
    · rcases h j with hj | hj
      · exact absurd hk.1.symm hj.ne
      · have h1 := hk.2
        have h2 : k.val ≤ j.val := hj.2
        simp only [hval] at h1
        rw [show j.val = k.val by omega]

/-- A reduction over pairs by such a step, at a result index whose source indices are those of a row: the position of the row's
    largest entry. -/
theorem argReduce_position {s t u : Shape} {axes : List (Fin s.rank)} [Nonempty (Fin n)] (hn : n ≤ 2048)
    {f : EReal × BitVec 32 → EReal × BitVec 32 → EReal × BitVec 32} (hf : Keeps f) (x : FVec Ideal s .f32) (y : s.Idx → BitVec 32)
    (ix : u.Idx → EReal) (iy : u.Idx → BitVec 32) (h : s.ReducesTo axes t) (hu : 0 < u.numel) (j : t.Idx) (row : Fin n → s.Idx)
    (hrow : ∀ i, h.drop i = j ↔ ∃ k, i = row k) (hy : ∀ k, y (row k) = BitVec.ofNat 32 k.val)
    (hix : ∀ k, ix k = Ideal.ofBits .f32 0xFF800000#32) (hiy : ∀ k, iy k = 0#32) :
    (Host.argReduce (F := Ideal) (φ := .f32) f x y ix iy h hu j).2 = position fun k => x (row k) := by
  rw [Ideal.argReduce_eq_reduce2, Host.reduce2_eq_foldl_fiber, hix, hiy]
  refine hf.foldl_position hn _ _ fun p => ?_
  simp only [Host.argReduceFiber, List.mem_map, List.mem_filter, List.mem_finRange, true_and, decide_eq_true_eq, hrow]
  constructor
  · rintro ⟨m, ⟨k, hk⟩, rfl⟩
    exact ⟨k, by rw [hk, hy]⟩
  · rintro ⟨k, rfl⟩
    exact ⟨s.rowMajor (row k), ⟨k, s.rowMajor.symm_apply_apply _⟩, by rw [s.rowMajor.symm_apply_apply, hy]⟩

end Cert.FirstMax

end
-- ==== Proof.Rows.lean ====
/- What the two kernel bodies store, at the ideal instance, entry by entry: of each row of a head its largest entry and that
   entry's first position, and of each position how many rows have it. -/
module

public import proofs.«01_k».proof.Proof.Bodies
public import proofs.«01_k».proof.Proof.FirstMax
public import Idealize.ShloMosaic.Lib.Pointwise
public import Idealize.ShloMosaic.Lib.Pipeline.ValueKit

@[expose] public section

set_option maxRecDepth 16384

noncomputable section

namespace Cert.KernelIdeal.Heads

open Cert.KernelIdeal Cert.KernelIdeal.Gen
open Cert.FirstMax
open Idealize.ShloMosaic Idealize.ShloMosaic.TcCoe

/-- Row `r` of a head. -/
def row (x : Vec Ideal S1x2048x2048 .f32) (r : Fin 2048) : Fin 2048 → EReal := fun k => x (ix3 0 r k)

/-! ## One chunk of 512 rows -/

/-- A chunk's stored maxima: of each row the largest entry. -/
theorem chunk_max (x : Vec Ideal S1x512x2048 .f32) (y : S1x1x512.Idx) : k0_pay6 x y = largest fun k => x (ix3 0 (y 2) k) := by
  pointwise [k0_pay6, k0_pay5, k0_pay4]
  rfl

/-- A chunk's stored positions: of each row the position of the largest entry. -/
theorem chunk_arg (x : Vec Ideal S1x512x2048 .f32) (y : S1x1x512.Idx) : k0_pay7 x y = position fun k => x (ix3 0 (y 2) k) := by
  pointwise [k0_pay7, k0_pay5, k0_pay4, k0_pay3]
  rfl

/-- Row `r` of the chunk that begins at row `o` is row `o + r` of the head. -/
theorem chunk_row (x : Vec Ideal S1x2048x2048 .f32) (o : ℕ) (inb) (r : Fin 512) (ho : o + r.val < 2048) :
    (fun k => View.ld x (Rect.unit (s := S1x2048x2048) ![0, o, 0] S1x512x2048.size inb) (ix3 0 r k)) = row x ⟨o + r.val, ho⟩ := by
  funext k
  refine View.ld_unit_apply_of x _ _ inb _ _ fun a => ?_
  fin_cases a
  · rfl
  · rfl
  · exact (Nat.zero_add _).symm

/-- Entry `y` of the chunk that begins at entry `o` of an output row is its entry `o + y`. -/
theorem chunk_entry (o : ℕ) (inb) (y : S1x1x512.Idx) :
    ((Rect.unit (s := S1x1x2048) ![0, 0, o] S1x1x512.size inb).emb y 2).val = o + (y 2).val := by
  rw [Rect.emb_apply]
  show o + 1 * (y 2).val = _
  omega

/-! ## A whole head -/

/-- Four chunks that each store `g` of their rows fill an output row with `g` of the head's rows. -/
theorem chunks {e : EltTy} (P : Vec Ideal S1x512x2048 .f32 → Vec Ideal S1x1x512 e) (g : (Fin 2048 → EReal) → Elt Ideal e)
    (hP : ∀ z y, P z y = g fun k => z (ix3 0 (y 2) k)) (x : Vec Ideal S1x2048x2048 .f32) (y : S1x1x2048.Idx) :
    View.canon (Val := Elt Ideal) [⟨outs3, P (View.ld x rows3)⟩, ⟨outs2, P (View.ld x rows2)⟩, ⟨outs1, P (View.ld x rows1)⟩,
      ⟨outs0, P (View.ld x rows0)⟩] y = g (row x (y 2)) := by
  refine View.canon_apply_of_pieces (Val := Elt Ideal) (fun y : S1x1x2048.Idx => g (row x (y 2))) _ ?_ y (filled _ _ _ _ y)
  have key : ∀ (o : ℕ) (inb) (inb') (z : S1x1x512.Idx) (_ : o + 512 ≤ 2048),
      P (View.ld x (Rect.unit (s := S1x2048x2048) ![0, o, 0] S1x512x2048.size inb)) z
        = g (row x ((Rect.unit (s := S1x1x2048) ![0, 0, o] S1x1x512.size inb').emb z 2)) := fun o inb inb' z ho => by
    have hz : (z 2).val < 512 := (z 2).isLt
    refine (hP _ _).trans (congrArg g ?_)
    exact (chunk_row x o inb (z 2) (by omega)).trans (congrArg (row x) (Fin.ext (chunk_entry o inb' z).symm))
  simp only [List.forall_mem_cons, List.not_mem_nil, false_imp_iff, implies_true, and_true]
  exact ⟨fun z => key 1536 _ _ z (by omega), fun z => key 1024 _ _ z (by omega), fun z => key 512 _ _ z (by omega),
    fun z => key 0 _ _ z (by omega)⟩

/-- The first output: of each row of the head its largest entry. -/
theorem maxOut_apply (x : Vec Ideal S1x2048x2048 .f32) (y : S1x1x2048.Idx) : maxOut x y = largest (row x (y 2)) :=
  chunks (e := .f32) k0_pay6 largest chunk_max x y

/-- The second output: of each row of the head the position of its largest entry. -/
theorem argOut_apply (x : Vec Ideal S1x2048x2048 .f32) (y : S1x1x2048.Idx) : argOut x y = position (row x (y 2)) :=
  chunks (e := .i32) k0_pay7 position chunk_arg x y

end Cert.KernelIdeal.Heads

end
-- ==== Proof.Arrays.lean ====
/- What the first kernel leaves in its two output arrays, at the ideal instance: of every row of every head the largest entry and
   its position. -/
module

public import proofs.«01_k».proof.Proof.Rows
public import proofs.«01_k».proof.Proof.Regions

@[expose] public section

set_option maxRecDepth 16384

noncomputable section

namespace Cert.KernelIdeal.Heads

open Cert.KernelIdeal Cert.KernelIdeal.Gen
open Cert.FirstMax
open Idealize.ShloMosaic Idealize.ShloMosaic.TcCoe
open Idealize.ShloMosaic.Pipeline (Dat)

/-- At point `t` every window is at block `t` of its array. -/
theorem idx0 : ∀ t : Fin cfg0.N, win0_0.index t = ![t.val, 0, 0] ∧ win0_1.index t = ![t.val, 0, 0] ∧ win0_2.index t = ![t.val, 0, 0] :=
  (by decide +kernel : ∀ t : Fin grid0.N, _)

variable (W : Dev nD → Valuation τ sig (Elt Ideal)) (c : Dev nD)

/-- The heads, as the first launch finds them. -/
abbrev heads : Vec Ideal S32x2048x2048 .f32 := W c (Proc.devRef .tc main_v0)

/-- Row `r` of head `h`. -/
def headRow (x : Vec Ideal S32x2048x2048 .f32) (h : Fin 32) (r : Fin 2048) : Fin 2048 → EReal := fun k => x (ix3 h r k)

/-- Row `r` of the block at point `t` is row `r` of head `t`. -/
theorem blk0_row (t : Fin cfg0.N) (r : Fin 2048) (h : Fin 32) (ht : h.val = t.val) :
    row (blk0 W c 0 t) r = headRow (heads W c) h r := by
  funext k
  unfold row headRow heads blk0
  blk_ext [idx0 t]

/-- Where entry `y` of the first output's block lies in its array; -/
theorem out_coords1 (t : Fin cfg0.N) (y : ((cfg0.win 1).xblock (cfg0.grid.coords t)).Idx) :
    ((win0_1.blk t).view.emb y 0 : ℕ) = t.val ∧ ((win0_1.blk t).view.emb y 2 : ℕ) = (y 2 : ℕ) := by
  constructor <;> blk_simp [idx0 t] <;> idx_bounds <;> simp <;> omega

/-- The first output array: the rows' largest entries. -/
theorem rowData_max : (rowData W c).arrAt 1 cfg0.N
    = fun i : S32x1x2048.Idx => largest (headRow (heads W c) (i 0) (i 2)) := by
  refine (rowData W c).arrAt_eq_of_covers 1 _ (by decide +kernel) fun t _ y => ?_
  blk_simp
  rw [rowData_after1]
  refine (maxOut_apply _ _).trans ?_
  rw [blk0_row W c t (y 2) ((win0_1.blk t).view.emb y 0) (out_coords1 t y).1]
  exact congrArg (fun r => largest (headRow (heads W c) ((win0_1.blk t).view.emb y 0) r)) (Fin.ext (out_coords1 t y).2.symm)

/-- of the second output's. -/
theorem out_coords2 (t : Fin cfg0.N) (y : ((cfg0.win 2).xblock (cfg0.grid.coords t)).Idx) :
    ((win0_2.blk t).view.emb y 0 : ℕ) = t.val ∧ ((win0_2.blk t).view.emb y 2 : ℕ) = (y 2 : ℕ) := by
  constructor <;> blk_simp [idx0 t] <;> idx_bounds <;> simp <;> omega

/-- The second output array: the positions of those entries. -/
theorem rowData_arg : (rowData W c).arrAt 2 cfg0.N
    = fun i : S32x1x2048.Idx => position (headRow (heads W c) (i 0) (i 2)) := by
  refine (rowData W c).arrAt_eq_of_covers 2 _ (by decide +kernel) fun t _ y => ?_
  blk_simp
  rw [rowData_after2]
  refine (argOut_apply _ _).trans ?_
  rw [blk0_row W c t (y 2) ((win0_2.blk t).view.emb y 0) (out_coords2 t y).1]
  exact congrArg (fun r => position (headRow (heads W c) ((win0_2.blk t).view.emb y 0) r)) (Fin.ext (out_coords2 t y).2.symm)

end Cert.KernelIdeal.Heads

end
-- ==== Proof.CountArrays.lean ====
/- What the second kernel reads and leaves, whatever admissible table it runs under. -/
module

public import proofs.«01_k».proof.Proof.Regions
public import Idealize.ShloMosaic.Lib.Pipeline.ValueKit

@[expose] public section

set_option maxRecDepth 16384

noncomputable section

namespace Cert.KernelIdeal.Heads

open Cert.KernelIdeal Cert.KernelIdeal.Gen
open Idealize.ShloMosaic Idealize.ShloMosaic.TcCoe
open Idealize.ShloMosaic.Pipeline (Dat)

variable {F : FTy → Type} [FloatOps F]
variable (a : (pcfg1 (F := F)).Adm) (W : Dev nD → Valuation τ sig (Elt F)) (c : Dev nD)

/-- The one point of the second launch's grid. -/
def only : Fin (cfg1 a).N := ⟨0, (by decide +kernel : 0 < grid1.N)⟩

/-- The output's block lies at the array's origin. -/
theorem idx1_out : ((cfg1 a).win 1).index (only a) = ![0, 0] := rfl

/-- The input's block lies at the head that the table names. -/
theorem blk1_head (h : Fin 32) (hidx : ((cfg1 a).win 0).index (only a) = ![h.val, 0, 0]) (i : Fin 2048) :
    blk1 a W c 0 (only a) (ix3 0 0 i) = (W c (Proc.devRef .tc main_v1_1) : Vec F S32x1x2048 .i32) (ix3 h 0 i) := by
  unfold blk1
  blk_ext [hidx]

/-- The output's block is the whole array, written back at the one point. -/
theorem whole_out : ((cfg1 a).win 1).WholeAt (only a) := by
  have hN : grid1.N = 1 := by decide +kernel
  have hlt : ∀ t : Fin (cfg1 a).N, t.val < 1 := fun t => hN ▸ t.isLt
  refine ⟨?_, fun t _ => Fin.ext ((Nat.lt_one_iff.mp (hlt t)).trans (Nat.lt_one_iff.mp (hlt (only a))).symm), fun b => ?_⟩
  · rfl
  · fin_cases b <;> exact ⟨rfl, rfl⟩

/-- The output array is what the body left. -/
theorem countData_out : (countData a W c).arrAt 1 (cfg1 a).N = countOut (blk1 a W c 0 (only a)) := by
  refine (countData a W c).arrAt_eq_of_after_last 1 (only a) (whole_out a) _ fun j => ?_
  blk_simp
  rw [countData_after1]
  rfl

end Cert.KernelIdeal.Heads

end
-- ==== Proof.Counts.lean ====
/- How many of 2048 rows have a position: the kernel's sum of ones where the row has it, and the reference's ones added at the
   rows' positions, are both that number. -/
module

public import proofs.«01_k».proof.Proof.Rows
public import proofs.«01_k».proof.Proof.Reference
public import Idealize.ShloMosaic.Lib.Routing.Ops
public import Idealize.ShloMosaic.Lib.Routing.Count

@[expose] public section

set_option maxRecDepth 16384

noncomputable section

namespace Cert.Counts

open Idealize.ShloMosaic Idealize.ShloMosaic.TcCoe

/-- Ones added where a condition holds, zeros elsewhere: the number of places where it holds. -/
theorem fold_ones {ι : Type} [DecidableEq ι] (s : Finset ι) (P : ι → Prop) [DecidablePred P] :
    s.fold IntOp.addi 0#32 (fun i => if P i then 1#32 else 0#32) = BitVec.ofNat 32 (s.filter P).card := by
  induction s using Finset.induction_on with
  | empty => rfl
  | insert i s hi ih =>
    rw [Finset.fold_insert hi, ih, Finset.filter_insert]
    by_cases h : P i
    · rw [if_pos h, if_pos h, Finset.card_insert_of_notMem (by simp [hi])]
      show 1#32 + _ = _
      rw [BitVec.add_comm, BitVec.ofNat_add]
    · rw [if_neg h, if_neg h]
      exact BitVec.zero_add _

/-- The kernel's counts of the positions `gi`. -/
theorem countOut_apply (x : Vec Ideal Cert.KernelIdeal.S1x1x2048 .i32) (gi : ℕ → ℕ)
    (hg : ∀ i : Fin 2048, x (ix3 0 0 i) = BitVec.ofNat 32 (gi i.val)) (h31 : ∀ i : Fin 2048, gi i.val < 2 ^ 31) (j : Fin 2048) :
    Cert.KernelIdeal.Heads.countOut x (ix2 0 j) = BitVec.ofNat 32 (Nat.count (fun i => gi i = j.val) 2048) := by
  unfold Cert.KernelIdeal.Heads.countOut
  rw [View.canon_cons_unit_lit _ _ _ (by decide), View.ld_unit_lit _ _ (by decide)]
  pointwise [Cert.KernelIdeal.Gen.k1_pay1]
  have hbit : ∀ i : Fin 2048, BitVec.setWidth 32 (IntOp.cmpi CmpIPredicate.eq (BitVec.ofNat 32 j.val) (x (ix3 0 0 i)))
      = if gi i.val = j.val then 1#32 else 0#32 := fun i => by
    rw [hg]
    have h1 := h31 i
    have h2 := j.isLt
    have e : (BitVec.ofNat 32 j.val = BitVec.ofNat 32 (gi i.val)) ↔ gi i.val = j.val := by
      rw [← BitVec.toNat_inj, BitVec.toNat_ofNat, BitVec.toNat_ofNat]; omega
    by_cases h : gi i.val = j.val
    · rw [if_pos h, h]; simp [IntOp.cmpi]
    · rw [if_neg h]
      show BitVec.setWidth 32 (BitVec.ofBool (BitVec.ofNat 32 j.val == BitVec.ofNat 32 (gi i.val))) = _
      rw [beq_eq_false_iff_ne.mpr fun c => h (e.mp c)]
      rfl
  simp only [hbit]
  rw [fold_ones Finset.univ (fun i : Fin 2048 => gi i.val = j.val), Routing.card_filter_fin 2048 (fun i => gi i = j.val)]
  exact BitVec.zero_add _

/-- The reference's counts of the positions `gi`. -/
theorem occurrences_apply (p : IVec Cert.ReferenceIdeal.S2048 32) (gi : ℕ → ℕ)
    (hg : ∀ i : Fin 2048, p (ix1 i) = BitVec.ofNat 32 (gi i.val)) (h31 : ∀ i : Fin 2048, gi i.val < 2 ^ 31) (j : Fin 2048) :
    Cert.ReferenceIdeal.Heads.occurrences p (ix1 j) = BitVec.ofNat 32 (Nat.count (fun i => gi i = j.val) 2048) := by
  unfold Cert.ReferenceIdeal.Heads.occurrences
  refine Routing.scatter_hist _ rfl rfl rfl _ (fun _ => rfl) _ _ (fun _ => rfl) gi (fun i => ?_) h31 j
  have hi : IntOp.maxsi 0#32 (p (ix1 i)) = BitVec.ofNat 32 (gi i.val) ∧ IntOp.cmpi .slt (BitVec.ofNat 32 (gi i.val)) 0#32 = 0#1 := by
    have h := Cert.FirstMax.toInt_small _ (h31 i)
    rw [hg]
    constructor
    · simp only [IntOp.maxsi, BitVec.slt, h]
      split
      · next c => exact absurd (of_decide_eq_true c) (not_lt.mpr (Int.natCast_nonneg _))
      · rfl
    · simp only [IntOp.cmpi, BitVec.slt, h]
      exact congrArg BitVec.ofBool (decide_eq_false (not_lt.mpr (Int.natCast_nonneg _)))
  pointwise []
  rw [hi.1, hi.2]
  rfl

/-- So the two agree where they count the same positions. -/
theorem countOut_eq_occurrences (x : Vec Ideal Cert.KernelIdeal.S1x1x2048 .i32) (p : IVec Cert.ReferenceIdeal.S2048 32)
    (hxp : ∀ i : Fin 2048, x (ix3 0 0 i) = p (ix1 i)) (hp : ∀ i : Fin 2048, (p (ix1 i)).toNat < 2048) (j : Fin 2048) :
    Cert.KernelIdeal.Heads.countOut x (ix2 0 j) = Cert.ReferenceIdeal.Heads.occurrences p (ix1 j) := by
  obtain ⟨gi, hgi⟩ : ∃ gi : ℕ → ℕ, ∀ i : Fin 2048, gi i.val = (p (ix1 i)).toNat :=
    ⟨fun n => if h : n < 2048 then (p (ix1 ⟨n, h⟩)).toNat else 0, fun i => dif_pos i.isLt⟩
  have hg : ∀ i : Fin 2048, p (ix1 i) = BitVec.ofNat 32 (gi i.val) := fun i => by rw [hgi, BitVec.ofNat_toNat, BitVec.setWidth_eq]
  have h31 : ∀ i : Fin 2048, gi i.val < 2 ^ 31 := fun i => by
    have h := hp i
    rw [hgi]
    omega
  rw [countOut_apply x gi (fun i => (hxp i).trans (hg i)) h31, occurrences_apply p gi hg h31]

end Cert.Counts

end
-- ==== Proof.ReferenceAt.lean ====
/- The reference's functions, entry by entry: the heads' blocks, scores and the positions of the rows' largest entries. -/
module

public import proofs.«01_k».proof.Proof.Reference
public import proofs.«01_k».proof.Proof.FirstMax
public import Idealize.ShloMosaic.Lib.Pointwise

@[expose] public section

set_option maxRecDepth 16384

noncomputable section

namespace Cert.ReferenceIdeal.Heads

open Cert.ReferenceIdeal Cert.ReferenceIdeal.Gen
open Cert.FirstMax
open Idealize.ShloMosaic Idealize.ShloMosaic.TcCoe

/-- The mean of 2048 rows' largest entries. -/
def score (v : Fin 2048 → Fin 2048 → EReal) : EReal := Ideal.div (∑ r, largest (v r)) (Ideal.ofBits .f32 0x45000000#32)

theorem scores_apply (y : FVec Ideal S32x2048x2048 .f32) (h : Fin 32) : scores y (ix1 h) = score fun r k => y (ix3 h r k) := by
  pointwise [scores]
  rfl

/-- Block `h` is the argument's at batch `h / 16`, head `h mod 16`. -/
theorem blocks_apply (x : FVec Ideal S2x16x2048x2048 .f32) (h : Fin 32) (r k : Fin 2048) :
    blocks x (ix3 h r k) = x (ix4 ⟨h.val / 16, by omega⟩ ⟨h.val % 16, by omega⟩ r k) := by
  pointwise [blocks]

/-- The focus rate is the largest of the 32 heads' scores. -/
theorem focusRate_apply (x : FVec Ideal S2x16x2048x2048 .f32) (j : S_.Idx) :
    focusRate x j = largest fun h : Fin 32 => score fun r k => blocks x (ix3 h r k) := by
  have e : focusRate x j = Finset.univ.fold max (Ideal.ofBits .f32 0xFF800000#32)
      fun p : Fin 2 × Fin 16 => score fun r k => x (ix4 p.1 p.2 r k) := by
    pointwise [focusRate]
    rfl
  rw [e]
  refine le_antisymm ((Finset.fold_max_le _).mpr ⟨(Finset.le_fold_max _).mpr (.inl le_rfl), fun p _ => ?_⟩)
    ((Finset.fold_max_le _).mpr ⟨(Finset.le_fold_max _).mpr (.inl le_rfl), fun h _ => ?_⟩)
  · refine (Finset.le_fold_max _).mpr (.inr ⟨⟨p.1.val * 16 + p.2.val, by omega⟩, Finset.mem_univ _, le_of_eq ?_⟩)
    simp only [blocks_apply]
    congr 1
    funext r k
    congr 1
    congr 1
    · exact Fin.ext (by show p.1.val = (p.1.val * 16 + p.2.val) / 16; omega)
    · exact Fin.ext (by show p.2.val = (p.1.val * 16 + p.2.val) % 16; omega)
  · refine (Finset.le_fold_max _).mpr (.inr ⟨(⟨h.val / 16, by omega⟩, ⟨h.val % 16, by omega⟩), Finset.mem_univ _, le_of_eq ?_⟩)
    simp only [blocks_apply]

/-- The block at a head's number is that head's. -/
theorem pick_apply (y : FVec Ideal S32x2048x2048 .f32) (b : IVec S_ 32) (h : Fin 32) (hb : ∀ j, b j = BitVec.ofNat 32 h.val)
    (r k : Fin 2048) : pick y b (ix2 r k) = y (ix3 h r k) := by
  have hi : ∀ j, (bestIndex b j).toInt = (h.val : ℤ) := fun j => by
    have e := toInt_small h.val (by omega)
    unfold bestIndex
    pointwise []
    rw [hb, show IntOp.cmpi .slt (BitVec.ofNat 32 h.val) 0#32 = 0#1 from by
      simp only [IntOp.cmpi, BitVec.slt, e]
      exact congrArg BitVec.ofBool (decide_eq_false (not_lt.mpr (Int.natCast_nonneg _)))]
    exact e
  pointwise [pick]
  congr 1
  congr 1
  · refine Fin.ext ?_
    have h32 := h.isLt
    simp [Host.clampedStart, hi]
    omega
  · refine Fin.ext ?_
    simp [Host.clampedStart]
  · refine Fin.ext ?_
    simp [Host.clampedStart]

/-- The reduction's step keeps of two pairs one that is ahead of both. -/
theorem keeps_reducer : Keeps (reducer_argmax_f32_i32 (F := Ideal)) := fun a b => by
  obtain ⟨a1, a2⟩ := a
  obtain ⟨b1, b2⟩ := b
  simp only [reducer_argmax_f32_i32, Ideal.cmpf_def, Ideal.cmp, IntOp.ori, IntOp.andi, IntOp.cmpi, Scalar.select, Ahead]
  rcases lt_trichotomy a1 b1 with h | h | h
  · simp [h, h.not_gt, h.ne]
  · subst h
    by_cases h : a2.toInt < b2.toInt
    · simp [BitVec.slt, h, h.le]
    · simp [BitVec.slt, h, not_lt.mp h]
  · simp [h, h.ne']

/-- `positions` written out, as functions (at one index a check would run the reduction). -/
theorem positions_def (z : FVec Ideal S2048x2048 .f32) : positions z = fun j =>
    (Host.argReduce (reducer_argmax_f32_i32 (F := Ideal)) z (iotaInDim S2048x2048 32 1)
      (constant S_ .f32 0xFF800000#32 : FVec Ideal S_ .f32) (constantI S_ 32 0#32) reducesTo_S2048x2048_S2048_d1 h_S_ j).2 := rfl

/-- The source indices of row `r` are the pairs `(r, k)`. -/
theorem drop_eq_iff (i : S2048x2048.Idx) (r : Fin 2048) :
    reducesTo_S2048x2048_S2048_d1.drop i = ix1 r ↔ ∃ k : Fin 2048, i = ix2 r k := by
  have hd : (reducesTo_S2048x2048_S2048_d1.drop i 0 : ℕ) = i 0 :=
    Shape.ReducesTo.drop_apply_val_of_eq reducesTo_S2048x2048_S2048_d1 i 0 0
  constructor
  · intro e
    rw [e] at hd
    refine ⟨i 1, funext fun a => ?_⟩
    fin_cases a
    · exact Fin.ext hd.symm
    · rfl
  · rintro ⟨k, rfl⟩
    funext a
    fin_cases a
    exact Fin.ext hd

/-- The position of a row's largest entry. -/
theorem positions_apply (z : FVec Ideal S2048x2048 .f32) (r : Fin 2048) :
    positions z (ix1 r) = position fun k : Fin 2048 => z (ix2 r k) := by
  have hy : ∀ k : Fin 2048, iotaInDim S2048x2048 32 1 (ix2 r k) = BitVec.ofNat 32 k.val := fun _ => rfl
  have hx : ∀ k, (constant S_ .f32 0xFF800000#32 : FVec Ideal S_ .f32) k = Ideal.ofBits .f32 0xFF800000#32 := fun _ => rfl
  have h0 : ∀ k, (constantI S_ 32 0#32) k = 0#32 := fun _ => rfl
  rw [positions_def]
  exact argReduce_position (le_refl 2048) keeps_reducer z _ _ _ reducesTo_S2048x2048_S2048_d1 h_S_ (ix1 r) (fun k => ix2 r k)
    (fun i => drop_eq_iff i r) hy hx h0

end Cert.ReferenceIdeal.Heads

end
-- ==== Proof.Between.lean ====
/- The contents of @main's buffers, step by step, in the reference's words. -/
module

public import proofs.«01_k».proof.Proof.Arrays
public import proofs.«01_k».proof.Proof.CountArrays
public import proofs.«01_k».proof.Proof.Counts
public import proofs.«01_k».proof.Proof.ReferenceAt
public import Idealize.ShloMosaic.Lib.StableHlo.RunClose

@[expose] public section

set_option maxRecDepth 16384

noncomputable section

namespace Cert.KernelIdeal.Heads

open Cert.KernelIdeal Cert.KernelIdeal.Gen
open Cert.FirstMax
open Cert.ReferenceIdeal.Heads (blocks scores score best focusRate pick positions occurrences duration)
open Idealize.ShloMosaic Idealize.ShloMosaic.TcCoe

variable (m : (ℓ : Loc nD τ sig) → Buf (Elt Ideal) ℓ) (c : Dev nD)

/-- The argument on a device. -/
abbrev argument : Vec Ideal S2x16x2048x2048 .f32 := m ((c : Thread nD τ).loc main_arg0)

/-- The first launch finds the argument's 32 heads. -/
theorem at1_heads : heads (at1 m) c = blocks (argument m c) := by
  unfold heads at1
  after_results
  rfl

/-- It leaves the rows' largest entries -/
theorem at2_max : at2 m c (Proc.devRef .tc main_v1_0)
    = fun i : S32x1x2048.Idx => largest (headRow (blocks (argument m c)) (i 0) (i 2)) := by
  unfold at2
  refine (Pipeline.afterRegion_arr (cfg := cfg0) (rowData (at1 m) c) (at1 m c) (launch0 (F := Ideal)).win.arr_inj 1).trans ?_
  rw [rowData_max, at1_heads]

/-- and their positions. -/
theorem at2_arg : at2 m c (Proc.devRef .tc main_v1_1)
    = fun i : S32x1x2048.Idx => position (headRow (blocks (argument m c)) (i 0) (i 2)) := by
  unfold at2
  refine (Pipeline.afterRegion_arr (cfg := cfg0) (rowData (at1 m) c) (at1 m c) (launch0 (F := Ideal)).win.arr_inj 2).trans ?_
  rw [rowData_arg, at1_heads]

/-- The positions stay as they are until the second launch. -/
theorem at5_arg : at5 m c (Proc.devRef .tc main_v1_1) = at2 m c (Proc.devRef .tc main_v1_1) := by
  have h3 : at3 m c (Proc.devRef .tc main_v1_1) = at2 m c (Proc.devRef .tc main_v1_1) := by unfold at3; after_results
  have h4 : at4 m c (Proc.devRef .tc main_v1_1) = at3 m c (Proc.devRef .tc main_v1_1) := by unfold at4; after_results
  have h5 : at5 m c (Proc.devRef .tc main_v1_1) = at4 m c (Proc.devRef .tc main_v1_1) := by unfold at5; after_results
  rw [h5, h4, h3]

/-- The mean over each head of an array of 32 times 2048 entries. -/
def means (x : FVec Ideal S32x1x2048 .f32) : FVec Ideal S32 .f32 :=
  Host.divf (Host.reduceAdd (shapeCast S32x2048 x shapeCasts_S32x1x2048_S32x2048) (constant S_ .f32 0x00000000#32) reducesTo_S32x2048_S32_d1 h_S_)
    (broadcastInDim S32 ![] bcast_S_S32 (constant S_ .f32 0x45000000#32))

theorem means_apply (x : FVec Ideal S32x1x2048 .f32) (h : Fin 32) :
    means x (Idealize.ShloMosaic.ix1 h) = Ideal.div (∑ r : Fin 2048, x (ix3 h 0 r)) (Ideal.ofBits .f32 0x45000000#32) := by
  pointwise [means]

/-- The heads' scores: of the rows' largest entries the means. -/
theorem at3_scores : at3 m c (Proc.devRef .tc main_v5) = scores (blocks (argument m c)) := by
  have e : at3 m c (Proc.devRef .tc main_v5) = means (at2 m c (Proc.devRef .tc main_v1_0)) := by
    unfold at3
    after_results
    rfl
  rw [e, at2_max]
  funext i
  obtain ⟨h, rfl⟩ : ∃ h : Fin 32, i = Idealize.ShloMosaic.ix1 h := ⟨i 0, by blk_ext []⟩
  exact (means_apply _ h).trans (Cert.ReferenceIdeal.Heads.scores_apply _ h).symm

/-- The largest of 32 scores. -/
def top (s : FVec Ideal S32 .f32) : FVec Ideal S_ .f32 :=
  Host.reduce FloatOps.maximumf s (constant S_ .f32 0xFF800000#32) reducesTo_S32_S_d0 h_S_

theorem top_apply (s : FVec Ideal S32 .f32) (j : S_.Idx) : top s j = largest fun h : Fin 32 => s (Idealize.ShloMosaic.ix1 h) := by
  pointwise [top]
  rfl

/-- The focus rate is the largest score. -/
theorem at3_focusRate : at3 m c (Proc.devRef .tc main_v6) = focusRate (argument m c) := by
  have e : at3 m c (Proc.devRef .tc main_v6) = top (at3 m c (Proc.devRef .tc main_v5)) := by
    unfold at3
    after_results
    rfl
  rw [e, at3_scores]
  funext j
  refine (top_apply _ j).trans (Eq.trans ?_ (Cert.ReferenceIdeal.Heads.focusRate_apply _ j).symm)
  exact congrArg largest (funext fun h => Cert.ReferenceIdeal.Heads.scores_apply _ h)

/-- It stays as it is until the return. -/
theorem at7_focusRate : at7 m c (Proc.devRef .tc main_v6) = focusRate (argument m c) := by
  have h4 : at4 m c (Proc.devRef .tc main_v6) = at3 m c (Proc.devRef .tc main_v6) := by unfold at4; after_results
  have h5 : at5 m c (Proc.devRef .tc main_v6) = at4 m c (Proc.devRef .tc main_v6) := by unfold at5; after_results
  have h6 : at6 m c (Proc.devRef .tc main_v6) = at5 m c (Proc.devRef .tc main_v6) :=
    Pipeline.afterRegion_of_not_arr _ _ (show ∀ w : Fin 2, main_v6 ≠ Pipeline.arrRef spec1 w by decide)
  have h7 : at7 m c (Proc.devRef .tc main_v6) = at6 m c (Proc.devRef .tc main_v6) := by unfold at7; after_results
  rw [h7, h6, h5, h4, at3_focusRate]

/-! ## The duration -/

/-- Kernel and reference pick the winner by the same rule. -/
theorem best_winner (s : FVec Ideal S32 .f32) (j : S_.Idx) : best s j = winner s := by
  rw [show j = fun a => a.elim0 from funext fun a => a.elim0]
  rfl

/-- The winning head of a device's argument. -/
def winnerHead : Fin 32 := ⟨(winner (scores (blocks (argument m c)))).toNat, winner_lt _⟩

theorem best_winnerHead (j : S_.Idx) : best (scores (blocks (argument m c))) j = BitVec.ofNat 32 (winnerHead m c).val := by
  rw [best_winner]
  unfold winnerHead
  rw [BitVec.ofNat_toNat, BitVec.setWidth_eq]

/-- The second launch reads the positions of the winning head. -/
theorem table_head : ((cfg1 (tables m 1)).win 0).index (only (tables m 1)) = ![(winnerHead m 0).val, 0, 0] := by
  have hw : ∀ (r : Rect S1) (h : r.shape.numel = 1),
      Pipeline.Prefetch.Contents.at (table m) 0 r h = winner (scores (blocks (argument m 0))) := fun _ _ =>
    (at5_table m 0 _).trans (congrArg winner (at3_scores m 0))
  show cc1_transform_0 inb_S1_S1_0 numel1_S1 (table m) (grid1.coords (only (tables m 1))) = _
  unfold cc1_transform_0
  rw [hw]
  rfl

/-- The positions the second launch counts are those the reference counts. -/
theorem counted (i : Fin 2048) : blk1 (tables m 1) (at5 m) 0 0 (only (tables m 1)) (ix3 0 0 i)
    = positions (pick (blocks (argument m 0)) (best (scores (blocks (argument m 0))))) (Idealize.ShloMosaic.ix1 i) := by
  rw [blk1_head (tables m 1) (at5 m) 0 (winnerHead m 0) (table_head m) i, at5_arg, at2_arg]
  refine Eq.trans ?_ (Cert.ReferenceIdeal.Heads.positions_apply _ i).symm
  exact congrArg position (funext fun k => (Cert.ReferenceIdeal.Heads.pick_apply _ _ (winnerHead m 0) (best_winnerHead m 0) i k).symm)

/-- A position is the number of a column. -/
theorem position_lt (v : Fin 2048 → EReal) : (position v).toNat < 2048 := by
  obtain ⟨k, hk⟩ := exists_first v
  rw [hk.position (by norm_num), BitVec.toNat_ofNat]
  omega

/-- The durations are those of the reference. -/
theorem at7_duration : at7 m c (Proc.devRef .tc main_v10) = duration (argument m c) := by
  obtain rfl : c = 0 := Subsingleton.elim _ _
  have h7 : at7 m 0 (Proc.devRef .tc main_v10)
      = shapeCast S2048 (at6 m 0 (Proc.devRef .tc main_v9) : IVec S1x2048 32) shapeCasts_S1x2048_S2048 := by
    unfold at7
    after_results
    rfl
  have h6 : at6 m 0 (Proc.devRef .tc main_v9) = countOut (blk1 (tables m 1) (at5 m) 0 0 (only (tables m 1))) := by
    unfold at6
    refine (Pipeline.afterRegion_arr (cfg := cfg1 (tables m 1)) (countData (tables m 1) (at5 m) 0) (at5 m 0)
      (launch1 (F := Ideal)).win.arr_inj 1).trans ?_
    exact countData_out (tables m 1) (at5 m) 0
  rw [h7, h6]
  funext i
  obtain ⟨j, rfl⟩ : ∃ j : Fin 2048, i = Idealize.ShloMosaic.ix1 j := ⟨i 0, by blk_ext []⟩
  refine Eq.trans ?_ (Cert.Counts.countOut_eq_occurrences _ _ (counted m) (fun i => ?_) j)
  · pointwise []
  · rw [Cert.ReferenceIdeal.Heads.positions_apply]
    exact position_lt _

end Cert.KernelIdeal.Heads

end
-- ==== Proof.lean ====
module

public import proofs.«01_k».proof.Defs
public import proofs.«01_k».proof.Proof.Frame
public import proofs.«01_k».proof.Proof.Twin
public import proofs.«01_k».proof.Proof.Reference
public import proofs.«01_k».proof.Proof.Between
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Kernel and reference, run from the same argument, end with the same durations and the same focus rate. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Heads.at7 m c (Proc.devRef .tc Cert.KernelIdeal.main_v10),
    fun c => Cert.KernelIdeal.Heads.at7 m c (Proc.devRef .tc Cert.KernelIdeal.main_v6), ?_, ?_⟩
  · exact θ_run_mono (Cert.KernelIdeal.Heads.run_results m g) fun r hr c => ⟨(hr.1 c).2.1, (hr.1 c).2.2, (hr.1 c).1⟩
  · refine θ_run_mono (Cert.ReferenceIdeal.Heads.run_values m' g') fun r hr c => ?_
    exact ⟨(hr c).1.trans ((congrArg Cert.ReferenceIdeal.Heads.duration (hm c)).trans (Cert.KernelIdeal.Heads.at7_duration m c).symm),
      (hr c).2.1.trans ((congrArg Cert.ReferenceIdeal.Heads.focusRate (hm c)).trans (Cert.KernelIdeal.Heads.at7_focusRate m c).symm),
      (hr c).2.2⟩

/-- Every claim of the certificate. -/
theorem claim : Cert.Claim :=
  ⟨Cert.Kernel.Gen.facts, Cert.KernelIdeal.Gen.facts, Cert.ReferenceIdeal.Gen.facts,
    fun m g _ => Cert.Kernel.Heads.frame m g, fun m g _ => Cert.KernelIdeal.Heads.frame m g,
    fun m g _ => Cert.ReferenceIdeal.Heads.frame m g, trivial, algebraic⟩

end Cert.Proof

end
